-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "q_scale" .f32 0x3E0293EE#32 ((11863283 * (134217728 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v112) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
-- ==== Pre_finite_qk.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)

variable [Facts]

def fn {F : FTy → Type} [FloatOps F] (main_arg0 : FVec F S8x2048x2048 .f32) (main_arg1 : FVec F S8x2048x2048 .f32) (main_arg2 : FVec F S8x2048x2048 .f32) : IVec S8x2048x2048 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_v3 : FVec F S8x2048x2048 .f32 := Host.absf main_arg1
  let main_cst_0 : FVec F S_ .f32 := constant S_ .f32 0x7F800000#32
  let main_v4 : FVec F S8x2048x2048 .f32 := broadcastInDim S8x2048x2048 ![] bcast_S_S8x2048x2048 main_cst_0
  let main_v5 : IVec S8x2048x2048 1 := cmpf .olt main_v3 main_v4
  let main_v6 : IVec S8x2048x2048 1 := andi main_v2 main_v5
  main_v6
-- ==== Kernel.lean ====
abbrev S8x2048x2048 : Shape := ⟨3, ![8, 2048, 2048]⟩
abbrev S_ : Shape := ⟨0, ![]⟩
abbrev S8x2048x6144 : Shape := ⟨3, ![8, 2048, 6144]⟩
abbrev S16384x6144 : Shape := ⟨2, ![16384, 6144]⟩
abbrev S16384x2048 : Shape := ⟨2, ![16384, 2048]⟩
abbrev S2048x512 : Shape := ⟨2, ![2048, 512]⟩
abbrev S3x2048x256 : Shape := ⟨3, ![3, 2048, 256]⟩
abbrev S2048x128 : Shape := ⟨2, ![2048, 128]⟩
abbrev S8x256x128 : Shape := ⟨3, ![8, 256, 128]⟩
abbrev S8x128 : Shape := ⟨2, ![8, 128]⟩
abbrev S8x2048 : Shape := ⟨2, ![8, 2048]⟩
abbrev S16x2048 : Shape := ⟨2, ![16, 2048]⟩
abbrev S128x2048 : Shape := ⟨2, ![128, 2048]⟩
abbrev S144x2048 : Shape := ⟨2, ![144, 2048]⟩
abbrev S256x128 : Shape := ⟨2, ![256, 128]⟩
abbrev S256x256 : Shape := ⟨2, ![256, 256]⟩
abbrev S1x2048x256 : Shape := ⟨3, ![1, 2048, 256]⟩
abbrev S2048x256 : Shape := ⟨2, ![2048, 256]⟩
abbrev S256 : Shape := ⟨1, ![256]⟩
abbrev S1x256 : Shape := ⟨2, ![1, 256]⟩
abbrev S512x128 : Shape := ⟨2, ![512, 128]⟩
abbrev S512x256 : Shape := ⟨2, ![512, 256]⟩
abbrev S768x128 : Shape := ⟨2, ![768, 128]⟩
abbrev S768x256 : Shape := ⟨2, ![768, 256]⟩
abbrev S144x256 : Shape := ⟨2, ![144, 256]⟩
abbrev S128x256 : Shape := ⟨2, ![128, 256]⟩
abbrev S1024x128 : Shape := ⟨2, ![1024, 128]⟩
abbrev S1024x256 : Shape := ⟨2, ![1024, 256]⟩
abbrev S144x512 : Shape := ⟨2, ![144, 512]⟩
abbrev S8x256 : Shape := ⟨2, ![8, 256]⟩
abbrev S1280x128 : Shape := ⟨2, ![1280, 128]⟩
abbrev S1280x256 : Shape := ⟨2, ![1280, 256]⟩
abbrev S144x768 : Shape := ⟨2, ![144, 768]⟩
abbrev S1536x128 : Shape := ⟨2, ![1536, 128]⟩
abbrev S1536x256 : Shape := ⟨2, ![1536, 256]⟩
abbrev S144x1024 : Shape := ⟨2, ![144, 1024]⟩
abbrev S1792x128 : Shape := ⟨2, ![1792, 128]⟩
abbrev S1792x256 : Shape := ⟨2, ![1792, 256]⟩
abbrev S144x1280 : Shape := ⟨2, ![144, 1280]⟩
abbrev S144x1536 : Shape := ⟨2, ![144, 1536]⟩
abbrev S144x1792 : Shape := ⟨2, ![144, 1792]⟩

abbrev nBuf : Space → Nat
  | .hbm => 15
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S8x2048x2048, .bf16⟩
  | .hbm, ⟨10, _⟩ => ⟨S8x2048x2048, .bf16⟩
  | .hbm, ⟨11, _⟩ => ⟨S8x2048x2048, .bf16⟩
  | .hbm, ⟨12, _⟩ => ⟨S8x2048x6144, .bf16⟩
  | .hbm, ⟨13, _⟩ => ⟨S16384x6144, .bf16⟩
  | .hbm, ⟨14, _⟩ => ⟨S16384x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x2048x256, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x2048 : Shape := ⟨3, ![8, 2048, 2048]⟩
abbrev S8x2048x16x128 : Shape := ⟨4, ![8, 2048, 16, 128]⟩
abbrev S8x16x2048x128 : Shape := ⟨4, ![8, 16, 2048, 128]⟩
abbrev S8x16x8x256x128 : Shape := ⟨5, ![8, 16, 8, 256, 128]⟩
abbrev S_ : Shape := ⟨0, ![]⟩
abbrev S8x16x8x128 : Shape := ⟨4, ![8, 16, 8, 128]⟩
abbrev S2048 : Shape := ⟨1, ![2048]⟩
abbrev S8x16x2048x8 : Shape := ⟨4, ![8, 16, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x16x2048x3 : Shape := ⟨4, ![8, 16, 2048, 3]⟩
abbrev S3 : Shape := ⟨1, ![3]⟩
abbrev S1x3 : Shape := ⟨2, ![1, 3]⟩
abbrev S2048x3 : Shape := ⟨2, ![2048, 3]⟩
abbrev S8x1x1x1 : Shape := ⟨4, ![8, 1, 1, 1]⟩
abbrev S16 : Shape := ⟨1, ![16]⟩
abbrev S1x16x1x1 : Shape := ⟨4, ![1, 16, 1, 1]⟩
abbrev S8x16x2048x256x128 : Shape := ⟨5, ![8, 16, 2048, 256, 128]⟩
abbrev S256 : Shape := ⟨1, ![256]⟩
abbrev S1x256 : Shape := ⟨2, ![1, 256]⟩
abbrev S2048x256 : Shape := ⟨2, ![2048, 256]⟩
abbrev S8x16x2048x3x1 : Shape := ⟨5, ![8, 16, 2048, 3, 1]⟩
abbrev S8x16x2048x3x3 : Shape := ⟨5, ![8, 16, 2048, 3, 3]⟩
abbrev S8x16x2048x3x256x128 : Shape := ⟨6, ![8, 16, 2048, 3, 256, 128]⟩
abbrev S8x16x2048x256 : Shape := ⟨4, ![8, 16, 2048, 256]⟩
abbrev S8x16x2048x3x256 : Shape := ⟨5, ![8, 16, 2048, 3, 256]⟩
abbrev S2048x3x1 : Shape := ⟨3, ![2048, 3, 1]⟩
abbrev S8x16x2048x768 : Shape := ⟨4, ![8, 16, 2048, 768]⟩
abbrev S8x16x2048x1024 : Shape := ⟨4, ![8, 16, 2048, 1024]⟩
abbrev S8x16x2048 : Shape := ⟨3, ![8, 16, 2048]⟩
abbrev S8x16x2048x1 : Shape := ⟨4, ![8, 16, 2048, 1]⟩
abbrev S16384x2048 : Shape := ⟨2, ![16384, 2048]⟩

abbrev nBuf : Space → Nat
  | .hbm => 189
  | .vmem => 0
  | .smem => 0
  | _ => 0

abbrev hbmTy0_0 (i : Nat) : BufTy := match i % 128 with
  | 0 => ⟨S8x2048x2048, .f32⟩
  | 1 => ⟨S8x2048x2048, .f32⟩
  | 2 => ⟨S8x2048x2048, .f32⟩
  | 3 => ⟨S8x2048x16x128, .f32⟩
  | 4 => ⟨S8x16x2048x128, .f32⟩
  | 5 => ⟨S8x2048x16x128, .f32⟩
  | 6 => ⟨S8x16x2048x128, .f32⟩
  | 7 => ⟨S8x2048x16x128, .f32⟩
  | 8 => ⟨S8x16x2048x128, .f32⟩
  | 9 => ⟨S8x16x8x256x128, .f32⟩
  | 10 => ⟨S8x16x8x256x128, .f32⟩
  | 11 => ⟨S_, .f32⟩
  | 12 => ⟨S8x16x8x128, .f32⟩
  | 13 => ⟨S_, .f32⟩
  | 14 => ⟨S8x16x8x128, .f32⟩
  | 15 => ⟨S8x16x8x128, .f32⟩
  | 16 => ⟨S2048, .i32⟩
  | 17 => ⟨S_, .i32⟩
  | 18 => ⟨S_, .i32⟩
  | 19 => ⟨S2048, .i32⟩
  | 20 => ⟨S2048, .i32⟩
  | 21 => ⟨S2048, .i32⟩
  | 22 => ⟨S_, .i32⟩
  | 23 => ⟨S2048, .i32⟩
  | 24 => ⟨S2048, .i1⟩
  | 25 => ⟨S2048, .i32⟩
  | 26 => ⟨S2048, .i32⟩
  | 27 => ⟨S_, .i32⟩
  | 28 => ⟨S2048, .i32⟩
  | 29 => ⟨S2048, .i1⟩
  | 30 => ⟨S2048, .i1⟩
  | 31 => ⟨S_, .i32⟩
  | 32 => ⟨S2048, .i32⟩
  | 33 => ⟨S2048, .i32⟩
  | 34 => ⟨S2048, .i32⟩
  | 35 => ⟨S8x16x2048x8, .f32⟩
  | 36 => ⟨S8, .i32⟩
  | 37 => ⟨S1x8, .i32⟩
  | 38 => ⟨S2048x1, .i32⟩
  | 39 => ⟨S2048x8, .i32⟩
  | 40 => ⟨S2048x8, .i32⟩
  | 41 => ⟨S2048x8, .i1⟩
  | 42 => ⟨S_, .f32⟩
  | 43 => ⟨S_, .f32⟩
  | 44 => ⟨S8x16x2048x8, .i1⟩
  | 45 => ⟨S8x16x2048x8, .f32⟩
  | 46 => ⟨S8x16x2048x8, .f32⟩
  | 47 => ⟨S8x16x2048x3, .f32⟩
  | 48 => ⟨S8x16x2048x3, .i32⟩
  | 49 => ⟨S3, .i32⟩
  | 50 => ⟨S1x3, .i32⟩
  | 51 => ⟨S2048x1, .i32⟩
  | 52 => ⟨S2048x3, .i32⟩
  | 53 => ⟨S2048x3, .i32⟩
  | 54 => ⟨S2048x3, .i1⟩
  | 55 => ⟨S8, .i32⟩
  | 56 => ⟨S8x1x1x1, .i32⟩
  | 57 => ⟨S16, .i32⟩
  | 58 => ⟨S1x16x1x1, .i32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S8x16x2048x256x128, .f32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S8x16x2048x256x128, .f32⟩
  | 77 => ⟨S2048x1, .i32⟩
  | 78 => ⟨S_, .i32⟩
  | 79 => ⟨S2048x1, .i32⟩
  | 80 => ⟨S2048x1, .i32⟩
  | 81 => ⟨S256, .i32⟩
  | 82 => ⟨S1x256, .i32⟩
  | 83 => ⟨S2048x256, .i32⟩
  | 84 => ⟨S2048x256, .i32⟩
  | 85 => ⟨S2048x256, .i32⟩
  | 86 => ⟨S2048x1, .i32⟩
  | 87 => ⟨S2048x256, .i32⟩
  | 88 => ⟨S2048x256, .i1⟩
  | 89 => ⟨S_, .i32⟩
  | 90 => ⟨S8x1x1x1, .i32⟩
  | 91 => ⟨S8x1x1x1, .i1⟩
  | 92 => ⟨S_, .i32⟩
  | 93 => ⟨S8x1x1x1, .i32⟩
  | 94 => ⟨S8x1x1x1, .i32⟩
  | 95 => ⟨S8x1x1x1, .i32⟩
  | 96 => ⟨S_, .i32⟩
  | 97 => ⟨S1x16x1x1, .i32⟩
  | 98 => ⟨S1x16x1x1, .i1⟩
  | 99 => ⟨S_, .i32⟩
  | 100 => ⟨S1x16x1x1, .i32⟩
  | 101 => ⟨S1x16x1x1, .i32⟩
  | 102 => ⟨S1x16x1x1, .i32⟩
  | 103 => ⟨S_, .i32⟩
  | 104 => ⟨S8x16x2048x3, .i32⟩
  | 105 => ⟨S8x16x2048x3, .i1⟩
  | 106 => ⟨S_, .i32⟩
  | 107 => ⟨S8x16x2048x3, .i32⟩
  | 108 => ⟨S8x16x2048x3, .i32⟩
  | 109 => ⟨S8x16x2048x3, .i32⟩
  | 110 => ⟨S8x16x2048x3, .i32⟩
  | 111 => ⟨S8x16x2048x3, .i32⟩
  | 112 => ⟨S8x16x2048x3x1, .i32⟩
  | 113 => ⟨S8x16x2048x3x1, .i32⟩
  | 114 => ⟨S8x16x2048x3x1, .i32⟩
  | 115 => ⟨S8x16x2048x3x3, .i32⟩
  | 116 => ⟨S8x16x2048x3x256x128, .f32⟩
  | 117 => ⟨S_, .i32⟩
  | 118 => ⟨S8x1x1x1, .i32⟩
  | 119 => ⟨S8x1x1x1, .i1⟩
  | 120 => ⟨S_, .i32⟩
  | 121 => ⟨S8x1x1x1, .i32⟩
  | 122 => ⟨S8x1x1x1, .i32⟩
  | 123 => ⟨S8x1x1x1, .i32⟩
  | 124 => ⟨S_, .i32⟩
  | 125 => ⟨S1x16x1x1, .i32⟩
  | 126 => ⟨S1x16x1x1, .i1⟩
  | 127 => ⟨S_, .i32⟩
  | _ => ⟨S8x2048x2048, .f32⟩

abbrev hbmTy0_1 (i : Nat) : BufTy := match i % 128 with
  | 0 => ⟨S1x16x1x1, .i32⟩
  | 1 => ⟨S1x16x1x1, .i32⟩
  | 2 => ⟨S1x16x1x1, .i32⟩
  | 3 => ⟨S_, .i32⟩
  | 4 => ⟨S8x16x2048x3, .i32⟩
  | 5 => ⟨S8x16x2048x3, .i1⟩
  | 6 => ⟨S_, .i32⟩
  | 7 => ⟨S8x16x2048x3, .i32⟩
  | 8 => ⟨S8x16x2048x3, .i32⟩
  | 9 => ⟨S8x16x2048x3, .i32⟩
  | 10 => ⟨S8x16x2048x3, .i32⟩
  | 11 => ⟨S8x16x2048x3, .i32⟩
  | 12 => ⟨S8x16x2048x3x1, .i32⟩
  | 13 => ⟨S8x16x2048x3x1, .i32⟩
  | 14 => ⟨S8x16x2048x3x1, .i32⟩
  | 15 => ⟨S8x16x2048x3x3, .i32⟩
  | 16 => ⟨S8x16x2048x3x256x128, .f32⟩
  | 17 => ⟨S8x16x2048x256, .f32⟩
  | 18 => ⟨S_, .f32⟩
  | 19 => ⟨S8x16x2048x256, .f32⟩
  | 20 => ⟨S8x16x2048x256, .f32⟩
  | 21 => ⟨S_, .f32⟩
  | 22 => ⟨S_, .f32⟩
  | 23 => ⟨S8x16x2048x256, .i1⟩
  | 24 => ⟨S8x16x2048x256, .f32⟩
  | 25 => ⟨S8x16x2048x256, .f32⟩
  | 26 => ⟨S8x16x2048x3x256, .f32⟩
  | 27 => ⟨S_, .f32⟩
  | 28 => ⟨S8x16x2048x3x256, .f32⟩
  | 29 => ⟨S8x16x2048x3x256, .f32⟩
  | 30 => ⟨S2048x3x1, .i1⟩
  | 31 => ⟨S_, .f32⟩
  | 32 => ⟨S_, .f32⟩
  | 33 => ⟨S8x16x2048x3x256, .i1⟩
  | 34 => ⟨S8x16x2048x3x256, .f32⟩
  | 35 => ⟨S8x16x2048x3x256, .f32⟩
  | 36 => ⟨S8x16x2048x768, .f32⟩
  | 37 => ⟨S8x16x2048x1024, .f32⟩
  | 38 => ⟨S_, .f32⟩
  | 39 => ⟨S8x16x2048, .f32⟩
  | 40 => ⟨S_, .f32⟩
  | 41 => ⟨S8x16x2048, .f32⟩
  | 42 => ⟨S8x16x2048, .f32⟩
  | 43 => ⟨S8x16x2048x1, .f32⟩
  | 44 => ⟨S8x16x2048x1024, .f32⟩
  | 45 => ⟨S8x16x2048x1024, .f32⟩
  | 46 => ⟨S8x16x2048x1024, .f32⟩
  | 47 => ⟨S_, .f32⟩
  | 48 => ⟨S8x16x2048, .f32⟩
  | 49 => ⟨S8x16x2048x1, .f32⟩
  | 50 => ⟨S8x16x2048x1024, .f32⟩
  | 51 => ⟨S8x16x2048x1024, .f32⟩
  | 52 => ⟨S8x16x2048x256, .f32⟩
  | 53 => ⟨S8x16x2048x768, .f32⟩
  | 54 => ⟨S8x16x2048x3x256, .f32⟩
  | 55 => ⟨S8x16x2048x128, .f32⟩
  | 56 => ⟨S8x16x2048x128, .f32⟩
  | 57 => ⟨S8x16x2048x128, .f32⟩
  | 58 => ⟨S8x2048x16x128, .f32⟩
  | 59 => ⟨S16384x2048, .f32⟩
  | 60 => ⟨S16384x2048, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_values : Ref sig .tc := ⟨.hbm, 47, rfl⟩
abbrev main_indices : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_2 : Ref sig .tc := ⟨.hbm, 59, rfl⟩
abbrev main_v31 : Ref sig .tc := ⟨.hbm, 60, rfl⟩
abbrev main_v32 : Ref sig .tc := ⟨.hbm, 61, rfl⟩
abbrev main_c_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_4 : Ref sig .tc := ⟨.hbm, 68, rfl⟩
abbrev main_v38 : Ref sig .tc := ⟨.hbm, 69, rfl⟩
abbrev main_v39 : Ref sig .tc := ⟨.hbm, 70, rfl⟩
abbrev main_c_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_6 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_7 : Ref sig .tc := ⟨.hbm, 89, rfl⟩
abbrev main_v56 : Ref sig .tc := ⟨.hbm, 90, rfl⟩
abbrev main_v57 : Ref sig .tc := ⟨.hbm, 91, rfl⟩
abbrev main_c_8 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_9 : Ref sig .tc := ⟨.hbm, 96, rfl⟩
abbrev main_v61 : Ref sig .tc := ⟨.hbm, 97, rfl⟩
abbrev main_v62 : Ref sig .tc := ⟨.hbm, 98, rfl⟩
abbrev main_c_10 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_11 : Ref sig .tc := ⟨.hbm, 103, rfl⟩
abbrev main_v66 : Ref sig .tc := ⟨.hbm, 104, rfl⟩
abbrev main_v67 : Ref sig .tc := ⟨.hbm, 105, rfl⟩
abbrev main_c_12 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_13 : Ref sig .tc := ⟨.hbm, 117, rfl⟩
abbrev main_v78 : Ref sig .tc := ⟨.hbm, 118, rfl⟩
abbrev main_v79 : Ref sig .tc := ⟨.hbm, 119, rfl⟩
abbrev main_c_14 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_15 : Ref sig .tc := ⟨.hbm, 124, rfl⟩
abbrev main_v83 : Ref sig .tc := ⟨.hbm, 125, rfl⟩
abbrev main_v84 : Ref sig .tc := ⟨.hbm, 126, rfl⟩
abbrev main_c_16 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_17 : Ref sig .tc := ⟨.hbm, 131, rfl⟩
abbrev main_v88 : Ref sig .tc := ⟨.hbm, 132, rfl⟩
abbrev main_v89 : Ref sig .tc := ⟨.hbm, 133, rfl⟩
abbrev main_c_18 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_19 : Ref sig .tc := ⟨.hbm, 146, rfl⟩
abbrev main_v101 : Ref sig .tc := ⟨.hbm, 147, rfl⟩
abbrev main_v102 : Ref sig .tc := ⟨.hbm, 148, rfl⟩
abbrev main_cst_20 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_v103 : Ref sig .tc := ⟨.hbm, 153, rfl⟩
abbrev main_v104 : Ref sig .tc := ⟨.hbm, 154, rfl⟩
abbrev main_cst_21 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_22 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_23 : Ref sig .tc := ⟨.hbm, 166, rfl⟩
abbrev main_v111 : Ref sig .tc := ⟨.hbm, 167, rfl⟩
abbrev main_cst_24 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_25 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩

abbrev nD : Nat := 1
abbrev τ : Topo := Topo.v7x

variable {F : FTy → Type} [FloatOps F]
-- ==== Kernel2.lean ====
abbrev S8x2048x2048 : Shape := ⟨3, ![8, 2048, 2048]⟩
abbrev S1x2048x14336 : Shape := ⟨3, ![1, 2048, 14336]⟩
abbrev S1x14336 : Shape := ⟨2, ![1, 14336]⟩
abbrev S16384x2048 : Shape := ⟨2, ![16384, 2048]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S2048x14336 : Shape := ⟨2, ![2048, 14336]⟩
abbrev S14336 : Shape := ⟨1, ![14336]⟩
abbrev S16384x12288 : Shape := ⟨2, ![16384, 12288]⟩
abbrev S1024x2048 : Shape := ⟨2, ![1024, 2048]⟩
abbrev S2048x1024 : Shape := ⟨2, ![2048, 1024]⟩
abbrev S1x1024 : Shape := ⟨2, ![1, 1024]⟩
abbrev S1024x128 : Shape := ⟨2, ![1024, 128]⟩
abbrev S1024x1024 : Shape := ⟨2, ![1024, 1024]⟩

abbrev nBuf : Space → Nat
  | .hbm => 30
  | .vmem => 17
  | .smem => 0
  | _ => 0

abbrev bufTy : (tb : Table) → Fin (tcTables nBuf tb) → BufTy
  | .hbm, ⟨0, _⟩ => ⟨S8x2048x2048, .f32⟩
  | .hbm, ⟨1, _⟩ => ⟨S1x2048x14336, .f32⟩
  | .hbm, ⟨2, _⟩ => ⟨S1x14336, .f32⟩
  | .hbm, ⟨3, _⟩ => ⟨S16384x2048, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x128, .f32⟩
  | .hbm, ⟨25, _⟩ => ⟨S2048x14336, .f32⟩
  | .hbm, ⟨26, _⟩ => ⟨S2048x14336, .bf16⟩
  | .hbm, ⟨27, _⟩ => ⟨S14336, .f32⟩
  | .hbm, ⟨28, _⟩ => ⟨S1x14336, .f32⟩
  | .hbm, ⟨29, _⟩ => ⟨S16384x12288, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 12], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let c6_i32 : BitVec 32 := 6#32
  let v7 : BitVec 1 := Scalar.cmpi .slt arg1 c6_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c6_i32_4 : BitVec 32 := 6#32
  let v11 : BitVec 1 := Scalar.cmpi .sge arg1 c6_i32_4
  let c8_i32 : BitVec 32 := 8#32
  let v12 : BitVec 1 := Scalar.cmpi .slt arg1 c8_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c8_i32_6 : BitVec 32 := 8#32
  let v16 : BitVec 1 := Scalar.cmpi .sge arg1 c8_i32_6
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c2_i32 : BitVec 32 := 2#32
  let v1 : BitVec 32 := Scalar.addi arg1 c2_i32
  let v2 : BitVec 32 := Scalar.select v0 arg1 v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c8_i32 : BitVec 32 := 8#32
  let v3 : BitVec 32 := Scalar.addi c8_i32 v2
  let c0_i32_0 : BitVec 32 := 0#32
  let c0_i32_1 : BitVec 32 := 0#32
  ![c0_i32_0.toNat, v3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c2_i32 : BitVec 32 := 2#32
  let v1 : BitVec 32 := Scalar.addi arg1 c2_i32
  let v2 : BitVec 32 := Scalar.select v0 arg1 v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c8_i32 : BitVec 32 := 8#32
  let v3 : BitVec 32 := Scalar.addi c8_i32 v2
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "q_scale" => some ((11863283 * (134217728 * (Real.log 2))⁻¹ : ℝ) : EReal)
  | _ => none
-- ==== Reference2Ideal.lean ====
abbrev S8x2048x2048 : Shape := ⟨3, ![8, 2048, 2048]⟩
abbrev S1x2048x14336 : Shape := ⟨3, ![1, 2048, 14336]⟩
abbrev S1x14336 : Shape := ⟨2, ![1, 14336]⟩
abbrev S2048 : Shape := ⟨1, ![2048]⟩
abbrev S2048x14336 : Shape := ⟨2, ![2048, 14336]⟩
abbrev S8x2048x14336 : Shape := ⟨3, ![8, 2048, 14336]⟩
abbrev S14336 : Shape := ⟨1, ![14336]⟩
abbrev S1x1x14336 : Shape := ⟨3, ![1, 1, 14336]⟩
abbrev S8x2048x4096 : Shape := ⟨3, ![8, 2048, 4096]⟩
abbrev S8x2048x16x128 : Shape := ⟨4, ![8, 2048, 16, 128]⟩
abbrev S8x16x2048x128 : Shape := ⟨4, ![8, 16, 2048, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S8x16x2048x64 : Shape := ⟨4, ![8, 16, 2048, 64]⟩
abbrev S1x1x2048x64 : Shape := ⟨4, ![1, 1, 2048, 64]⟩
abbrev S8x2048x12288 : Shape := ⟨3, ![8, 2048, 12288]⟩
abbrev S16384x12288 : Shape := ⟨2, ![16384, 12288]⟩

abbrev nBuf : Space → Nat
  | .hbm => 128
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x14336, .f32⟩
  | .hbm, ⟨2, _⟩ => ⟨S1x14336, .f32⟩
  | .hbm, ⟨3, _⟩ => ⟨S2048, .i32⟩
  | .hbm, ⟨4, _⟩ => ⟨S2048x14336, .f32⟩
  | .hbm, ⟨5, _⟩ => ⟨S8x2048x14336, .f32⟩
  | .hbm, ⟨6, _⟩ => ⟨S14336, .f32⟩
  | .hbm, ⟨7, _⟩ => ⟨S1x1x14336, .f32⟩
  | .hbm, ⟨8, _⟩ => ⟨S8x2048x14336, .f32⟩
  | .hbm, ⟨9, _⟩ => ⟨S8x2048x14336, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x4096, .f32⟩
  | .hbm, ⟨14, _⟩ => ⟨S8x2048x4096, .f32⟩
  | .hbm, ⟨15, _⟩ => ⟨S8x2048x16x128, .f32⟩
  | .hbm, ⟨16, _⟩ => ⟨S8x16x2048x128, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S2048, .f32⟩
  | .hbm, ⟨26, _⟩ => ⟨S2048x1, .f32⟩
  | .hbm, ⟨27, _⟩ => ⟨S1x64, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x64, .f32⟩
  | .hbm, ⟨33, _⟩ => ⟨S8x16x2048x64, .f32⟩
  | .hbm, ⟨34, _⟩ => ⟨S8x16x2048x64, .f32⟩
  | .hbm, ⟨35, _⟩ => ⟨S1x1x2048x64, .f32⟩
  | .hbm, ⟨36, _⟩ => ⟨S8x16x2048x64, .f32⟩
  | .hbm, ⟨37, _⟩ => ⟨S8x16x2048x64, .f32⟩
  | .hbm, ⟨38, _⟩ => ⟨S1x1x2048x64, .f32⟩
  | .hbm, ⟨39, _⟩ => ⟨S8x16x2048x64, .f32⟩
  | .hbm, ⟨40, _⟩ => ⟨S8x16x2048x64, .f32⟩
  | .hbm, ⟨41, _⟩ => ⟨S8x16x2048x64, .f32⟩
  | .hbm, ⟨42, _⟩ => ⟨S1x1x2048x64, .f32⟩
  | .hbm, ⟨43, _⟩ => ⟨S8x16x2048x64, .f32⟩
  | .hbm, ⟨44, _⟩ => ⟨S8x16x2048x64, .f32⟩
  | .hbm, ⟨45, _⟩ => ⟨S1x1x2048x64, .f32⟩
  | .hbm, ⟨46, _⟩ => ⟨S8x16x2048x64, .f32⟩
  | .hbm, ⟨47, _⟩ => ⟨S8x16x2048x64, .f32⟩
  | .hbm, ⟨48, _⟩ => ⟨S8x16x2048x64, .f32⟩
  | .hbm, ⟨49, _⟩ => ⟨S8x16x2048x128, .f32⟩
  | .hbm, ⟨50, _⟩ => ⟨S_, .f32⟩
  | .hbm, ⟨51, _⟩ => ⟨S8x16x2048x128, .f32⟩
  | .hbm, ⟨52, _⟩ => ⟨S8x16x2048x128, .f32⟩
  | .hbm, ⟨53, _⟩ => ⟨S_, .f32⟩
  | .hbm, ⟨54, _⟩ => ⟨S_, .f32⟩
  | .hbm, ⟨55, _⟩ => ⟨S8x16x2048x128, .f32⟩
  | .hbm, ⟨56, _⟩ => ⟨S8x16x2048x128, .f32⟩
  | .hbm, ⟨57, _⟩ => ⟨S8x2048x16x128, .f32⟩
  | .hbm, ⟨58, _⟩ => ⟨S8x16x2048x128, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S2048, .f32⟩
  | .hbm, ⟨68, _⟩ => ⟨S2048x1, .f32⟩
  | .hbm, ⟨69, _⟩ => ⟨S1x64, .f32⟩
  | .hbm, ⟨70, _⟩ => ⟨S2048x64, .f32⟩
  | .hbm, ⟨71, _⟩ => ⟨S2048x64, .f32⟩
  | .hbm, ⟨72, _⟩ => ⟨S2048x64, .f32⟩
  | .hbm, ⟨73, _⟩ => ⟨S2048x64, .f32⟩
  | .hbm, ⟨74, _⟩ => ⟨S2048x64, .f32⟩
  | .hbm, ⟨75, _⟩ => ⟨S8x16x2048x64, .f32⟩
  | .hbm, ⟨76, _⟩ => ⟨S8x16x2048x64, .f32⟩
  | .hbm, ⟨77, _⟩ => ⟨S1x1x2048x64, .f32⟩
  | .hbm, ⟨78, _⟩ => ⟨S8x16x2048x64, .f32⟩
  | .hbm, ⟨79, _⟩ => ⟨S8x16x2048x64, .f32⟩
  | .hbm, ⟨80, _⟩ => ⟨S1x1x2048x64, .f32⟩
  | .hbm, ⟨81, _⟩ => ⟨S8x16x2048x64, .f32⟩
  | .hbm, ⟨82, _⟩ => ⟨S8x16x2048x64, .f32⟩
  | .hbm, ⟨83, _⟩ => ⟨S8x16x2048x64, .f32⟩
  | .hbm, ⟨84, _⟩ => ⟨S1x1x2048x64, .f32⟩
  | .hbm, ⟨85, _⟩ => ⟨S8x16x2048x64, .f32⟩
  | .hbm, ⟨86, _⟩ => ⟨S8x16x2048x64, .f32⟩
  | .hbm, ⟨87, _⟩ => ⟨S1x1x2048x64, .f32⟩
  | .hbm, ⟨88, _⟩ => ⟨S8x16x2048x64, .f32⟩
  | .hbm, ⟨89, _⟩ => ⟨S8x16x2048x64, .f32⟩
  | .hbm, ⟨90, _⟩ => ⟨S8x16x2048x64, .f32⟩
  | .hbm, ⟨91, _⟩ => ⟨S8x16x2048x128, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S8x2048x2048, .f32⟩
  | .hbm, ⟨96, _⟩ => ⟨S_, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048x2048, .f32⟩
  | .hbm, ⟨101, _⟩ => ⟨S8x2048x2048, .f32⟩
  | .hbm, ⟨102, _⟩ => ⟨S8x2048x2048, .f32⟩
  | .hbm, ⟨103, _⟩ => ⟨S8x2048x2048, .f32⟩
  | .hbm, ⟨104, _⟩ => ⟨S8x2048x2048, .f32⟩
  | .hbm, ⟨105, _⟩ => ⟨S8x2048x16x128, .f32⟩
  | .hbm, ⟨106, _⟩ => ⟨S8x2048x2048, .f32⟩
  | .hbm, ⟨107, _⟩ => ⟨S8x2048x16x128, .f32⟩
  | .hbm, ⟨108, _⟩ => ⟨S8x2048x2048, .f32⟩
  | .hbm, ⟨109, _⟩ => ⟨S8x2048x2048, .f32⟩
  | .hbm, ⟨110, _⟩ => ⟨S8x2048x2048, .f32⟩
  | .hbm, ⟨111, _⟩ => ⟨S_, .f32⟩
  | .hbm, ⟨112, _⟩ => ⟨S8x2048x2048, .f32⟩
  | .hbm, ⟨113, _⟩ => ⟨S8x2048x2048, .f32⟩
  | .hbm, ⟨114, _⟩ => ⟨S_, .f32⟩
  | .hbm, ⟨115, _⟩ => ⟨S8x2048x2048, .f32⟩
  | .hbm, ⟨116, _⟩ => ⟨S8x2048x2048, .f32⟩
  | .hbm, ⟨117, _⟩ => ⟨S8x2048x2048, .f32⟩
  | .hbm, ⟨118, _⟩ => ⟨S8x2048x2048, .f32⟩
  | .hbm, ⟨119, _⟩ => ⟨S_, .f32⟩
  | .hbm, ⟨120, _⟩ => ⟨S8x2048x2048, .f32⟩
  | .hbm, ⟨121, _⟩ => ⟨S8x2048x2048, .f32⟩
  | .hbm, ⟨122, _⟩ => ⟨S_, .f32⟩
  | .hbm, ⟨123, _⟩ => ⟨S8x2048x2048, .f32⟩
  | .hbm, ⟨124, _⟩ => ⟨S8x2048x2048, .f32⟩
  | .hbm, ⟨125, _⟩ => ⟨S8x2048x12288, .f32⟩
  | .hbm, ⟨126, _⟩ => ⟨S16384x12288, .f32⟩
  | .hbm, ⟨127, _⟩ => ⟨S16384x12288, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_cst_5 : Ref sig .tc := ⟨.hbm, 96, rfl⟩
abbrev main_v87 : Ref sig .tc := ⟨.hbm, 97, rfl⟩
abbrev main_v88 : Ref sig .tc := ⟨.hbm, 98, rfl⟩
abbrev main_cst_6 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_cst_7 : Ref sig .tc := ⟨.hbm, 111, rfl⟩
abbrev main_v100 : Ref sig .tc := ⟨.hbm, 112, rfl⟩
abbrev main_v101 : Ref sig .tc := ⟨.hbm, 113, rfl⟩
abbrev main_cst_8 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_cst_9 : Ref sig .tc := ⟨.hbm, 119, rfl⟩
abbrev main_v106 : Ref sig .tc := ⟨.hbm, 120, rfl⟩
abbrev main_v107 : Ref sig .tc := ⟨.hbm, 121, rfl⟩
abbrev main_cst_10 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩

abbrev nD : Nat := 1
abbrev τ : Topo := Topo.v7x

variable {F : FTy → Type} [FloatOps F]
-- ==== Proof.Finite.lean ====
module

public import proofs.«01_k».proof.Proof.Gen.Pre_finite_qk
public import Idealize.ShloMosaic.Lib.Pointwise

@[expose] public section

noncomputable section

/-! What the precondition says: every query and every key is a real number. -/

namespace Cert.Attn

open Cert.Pre_finite_qk Idealize.ShloMosaic

theorem posInf_word : Ideal.ofBits .f32 0x7F800000#32 = (⊤ : EReal) := by
  simp [Ideal.ofBits, Ideal.ieee]

/-- An extended real below infinity in absolute value is a real. -/
theorem real_of_abs (a : EReal) (h : max a (-a) < ⊤) : ∃ r : ℝ, a = (r : EReal) := by
  refine ⟨a.toReal, (EReal.coe_toReal ?_ ?_).symm⟩
  · rintro rfl
    exact absurd h (by simp)
  · rintro rfl
    exact absurd h (by simp)

theorem both_bits (p q : Prop) [Decidable p] [Decidable q] (h : IntOp.andi (BitVec.ofBool (decide p)) (BitVec.ofBool (decide q)) = 1#1) : p ∧ q := by
  by_cases hp : p <;> by_cases hq : q <;> simp [IntOp.andi, hp, hq] at h ⊢

theorem finite_of_pre (x0 x1 x2 : FVec Ideal S8x2048x2048 .f32) (h : fn (F := Ideal) x0 x1 x2 = fun _ => 1#1) :
    (∀ j, ∃ r : ℝ, x0 j = (r : EReal)) ∧ ∀ j, ∃ r : ℝ, x1 j = (r : EReal) := by
  have hj : ∀ j, max (x0 j) (-x0 j) < (⊤ : EReal) ∧ max (x1 j) (-x1 j) < (⊤ : EReal) := fun j => by
    have e := congrFun h j
    rw [← posInf_word]
    exact both_bits _ _ e
  exact ⟨fun j => real_of_abs _ (hj j).1, fun j => real_of_abs _ (hj j).2⟩

end Cert.Attn
-- ==== Proof.RefIndex.lean ====
module

public import proofs.«01_k».proof.Proof.Gen.ReferenceIdeal.Read
public import Idealize.ShloMosaic.Lib.Pointwise
public import Idealize.ShloMosaic.Lib.WordCmp
public import Idealize.ShloMosaic.Lib.Pipeline.ValueKit

@[expose] public section

set_option maxRecDepth 16384

noncomputable section

/-! The reference's heads, key blocks and block numbers, read at an index, and the two ways it takes
key blocks out of the sequence: one block by a query's block number, three by selected numbers. -/

namespace Cert.Attn

open Cert.ReferenceIdeal Cert.ReferenceIdeal.Gen Cert.ReferenceIdeal.Read Idealize.ShloMosaic Idealize.ShloMosaic.TcCoe Idealize.SL.Sem

theorem nat_of_word {N : Nat} (n : Fin N) (hN : N ≤ 65536) : (BitVec.ofNat 32 n.val).toInt.toNat = n.val := by
  have h : (BitVec.ofNat 32 n.val).toNat = n.val := by simp [BitVec.toNat_ofNat]; omega
  rw [BitVec.toInt_eq_toNat_of_lt (by omega), h]; rfl

/-- The rows of one key block, taken at a block number. -/
theorem take_own (b : Fin 8) (h : Fin 16) (s : Fin 2048) (x : Fin 256) (d : Fin 128) (k : FVec Ideal S8x16x8x256x128 .f32)
    (w : IVec S2048x1 32) (n : Fin 8) (hw : w (ix2 s 0) = BitVec.ofNat 32 n.val) :
    Host.gather gather_S8x16x8x256x128_S2048x1_S8x16x2048x256x128_0134_2_n_n_2_1_8161256128 k w (ix5 b h s x d) = k (ix5 b h n x d) := by
  refine congrArg k (funext fun a => Fin.ext ?_)
  have hi : ((gather_S8x16x8x256x128_S2048x1_S8x16x2048x256x128_0134_2_n_n_2_1_8161256128).siIdx (ix5 b h s x d) ⟨0, by decide⟩) = ix2 s 0 := by
    funext c
    match c with
    | ⟨0, _⟩ => rfl
    | ⟨1, _⟩ => rfl
  match a with
  | ⟨0, _⟩ => exact (show 0 + 0 + b.val = b.val by omega)
  | ⟨1, _⟩ => exact (show 0 + 0 + h.val = h.val by omega)
  | ⟨2, _⟩ =>
    show min (w (GatherDims.siIdx gather_S8x16x8x256x128_S2048x1_S8x16x2048x256x128_0134_2_n_n_2_1_8161256128 (ix5 b h s x d) ⟨0, by decide⟩)).toInt.toNat 7 + 0 + 0 = n.val
    rw [hi, hw, nat_of_word n (by omega)]; omega
  | ⟨3, _⟩ => exact (show 0 + 0 + x.val = x.val by omega)
  | ⟨4, _⟩ => exact (show 0 + 0 + d.val = d.val by omega)

/-- The rows of a key block, taken at a batch, a head and a block number. -/
theorem take_sel (b : Fin 8) (h : Fin 16) (s : Fin 2048) (r : Fin 3) (x : Fin 256) (d : Fin 128) (k : FVec Ideal S8x16x8x256x128 .f32)
    (w : IVec S8x16x2048x3x3 32) (n : Fin 8) (hb : w (ix5 b h s r 0) = BitVec.ofNat 32 b.val)
    (hh : w (ix5 b h s r 1) = BitVec.ofNat 32 h.val) (hn : w (ix5 b h s r 2) = BitVec.ofNat 32 n.val) :
    Host.gather gather_S8x16x8x256x128_S8x16x2048x3x3_S8x16x2048x3x256x128_45_012_n_n_012_4_111256128 k w (ix6 b h s r x d)
      = k (ix5 b h n x d) := by
  refine congrArg k (funext fun a => Fin.ext ?_)
  have hi : ∀ c : Fin 3, ((gather_S8x16x8x256x128_S8x16x2048x3x3_S8x16x2048x3x256x128_45_012_n_n_012_4_111256128).siIdx (ix6 b h s r x d) c) = ix5 b h s r c := by
    intro c
    funext e
    match e with
    | ⟨0, _⟩ => rfl
    | ⟨1, _⟩ => rfl
    | ⟨2, _⟩ => rfl
    | ⟨3, _⟩ => rfl
    | ⟨4, _⟩ => rfl
  match a with
  | ⟨0, _⟩ =>
    show min (w (GatherDims.siIdx gather_S8x16x8x256x128_S8x16x2048x3x3_S8x16x2048x3x256x128_45_012_n_n_012_4_111256128 (ix6 b h s r x d) (0 : Fin 3))).toInt.toNat 7 + 0 + 0 = b.val
    rw [hi, hb, nat_of_word b (by omega)]; omega
  | ⟨1, _⟩ =>
    show min (w (GatherDims.siIdx gather_S8x16x8x256x128_S8x16x2048x3x3_S8x16x2048x3x256x128_45_012_n_n_012_4_111256128 (ix6 b h s r x d) (1 : Fin 3))).toInt.toNat 15 + 0 + 0 = h.val
    rw [hi, hh, nat_of_word h (by omega)]; omega
  | ⟨2, _⟩ =>
    show min (w (GatherDims.siIdx gather_S8x16x8x256x128_S8x16x2048x3x3_S8x16x2048x3x256x128_45_012_n_n_012_4_111256128 (ix6 b h s r x d) (2 : Fin 3))).toInt.toNat 7 + 0 + 0 = n.val
    rw [hi, hn, nat_of_word n (by omega)]; omega
  | ⟨3, _⟩ => exact (show 0 + 0 + x.val = x.val by omega)
  | ⟨4, _⟩ => exact (show 0 + 0 + d.val = d.val by omega)

/-- The queries by heads. -/
theorem ref_q (x0 : FVec Ideal S8x2048x2048 .f32) (b : Fin 8) (h : Fin 16) (s : Fin 2048) (d : Fin 128) :
    val_main_v1 (F := Ideal) x0 (ix4 b h s d) = x0 (ix3 b s (⟨128 * h.val + d.val, by omega⟩ : Fin 2048)) := by
  have e : (⟨h.val * 128 + d.val, by omega⟩ : Fin 2048) = ⟨128 * h.val + d.val, by omega⟩ := Fin.ext (by show h.val * 128 + d.val = 128 * h.val + d.val; omega)
  rw [← e]
  unfold val_main_v1 val_main_v0
  pointwise

/-- The keys by heads and blocks. -/
theorem ref_k (x1 : FVec Ideal S8x2048x2048 .f32) (b : Fin 8) (h : Fin 16) (n : Fin 8) (x : Fin 256) (d : Fin 128) :
    val_main_v6 (F := Ideal) x1 (ix5 b h n x d)
      = x1 (ix3 b (⟨n.val * 256 + x.val, by omega⟩ : Fin 2048) (⟨128 * h.val + d.val, by omega⟩ : Fin 2048)) := by
  have e : (⟨h.val * 128 + d.val, by omega⟩ : Fin 2048) = ⟨128 * h.val + d.val, by omega⟩ := Fin.ext (by show h.val * 128 + d.val = 128 * h.val + d.val; omega)
  rw [← e]
  unfold val_main_v6 val_main_v3 val_main_v2
  pointwise

/-- The values by heads and blocks. -/
theorem ref_v (x2 : FVec Ideal S8x2048x2048 .f32) (b : Fin 8) (h : Fin 16) (n : Fin 8) (x : Fin 256) (d : Fin 128) :
    val_main_v7 (F := Ideal) x2 (ix5 b h n x d)
      = x2 (ix3 b (⟨n.val * 256 + x.val, by omega⟩ : Fin 2048) (⟨128 * h.val + d.val, by omega⟩ : Fin 2048)) := by
  have e : (⟨h.val * 128 + d.val, by omega⟩ : Fin 2048) = ⟨128 * h.val + d.val, by omega⟩ := Fin.ext (by show h.val * 128 + d.val = 128 * h.val + d.val; omega)
  rw [← e]
  unfold val_main_v7 val_main_v5 val_main_v4
  pointwise

/-- A query's block number. -/
theorem ref_id (s : Fin 2048) : val_main_v12 (F := Ideal) (ix1 s) = BitVec.ofNat 32 (s.val / 256) := by
  unfold val_main_v12 val_main_call0_v11 val_main_call0_v13 val_main_call0_v2 val_main_call0_v6 val_main_call0_v10 val_main_call0_v3 val_main_call0_v5
    val_main_call0_v4 val_main_call0_v8 val_main_call0_v9 val_main_call0_v7 val_main_call0_v1 val_main_call0_v12 val_main_call0_c val_main_call0_c_0 val_main_call0_v0 val_main_c val_main_v11
  pointwise
  have e : ∀ i, id (constantI S_ 32 256#32) i = 256#32 := fun _ => rfl
  simp only [e]
  revert s
  decide +kernel

end Cert.Attn
-- ==== Proof.Spec.lean ====
/-
  WHAT THE ATTENTION COMPUTES, in plain mathematics: which keys a query sees, and the softmax over them.
-/
module

public import Idealize.ShloMosaic.Lib.Pointwise
public import Idealize.ShloMosaic.Lib.IdealHost
public import Mathlib.Analysis.SpecialFunctions.Pow.Real

@[expose] public section

noncomputable section

namespace Cert.Attn

open Idealize.ShloMosaic
open scoped BigOperators

/-- Block `o` goes before block `n`: a greater gate, or an equal one at a lower number. -/
def Ahead (γ : Fin 8 → EReal) (o n : Fin 8) : Prop := γ n < γ o ∨ (γ o = γ n ∧ o < n)

/-- How many blocks with a number below `m` go before `n`. -/
def ahead (γ : Fin 8 → EReal) (m : ℕ) (n : Fin 8) : ℕ := by
  classical exact (Finset.univ.filter fun o : Fin 8 => o.val < m ∧ Ahead γ o n).card

theorem ahead_le (γ : Fin 8 → EReal) (m : ℕ) (n : Fin 8) : ahead γ m n ≤ 8 := by
  classical exact (Finset.card_filter_le _ _).trans (by simp)

theorem ahead_zero (γ : Fin 8 → EReal) (n : Fin 8) : ahead γ 0 n = 0 := by
  classical
  simp [ahead]

theorem ahead_succ (γ : Fin 8 → EReal) (m : ℕ) (hm : m < 8) (n : Fin 8) :
    ahead γ (m + 1) n = ahead γ m n + (by classical exact if Ahead γ ⟨m, hm⟩ n then 1 else 0) := by
  classical
  unfold ahead
  have hs : (Finset.univ.filter fun o : Fin 8 => o.val < m + 1 ∧ Ahead γ o n)
      = (Finset.univ.filter fun o : Fin 8 => o.val < m ∧ Ahead γ o n) ∪ (Finset.univ.filter fun o : Fin 8 => o = ⟨m, hm⟩ ∧ Ahead γ o n) := by
    ext o
    simp only [Finset.mem_filter, Finset.mem_univ, true_and, Finset.mem_union, Fin.ext_iff]
    constructor
    · rintro ⟨h, h'⟩
      rcases Nat.lt_or_ge o.val m with h1 | h1
      · exact .inl ⟨h1, h'⟩
      · exact .inr ⟨by omega, h'⟩
    · rintro (⟨h, h'⟩ | ⟨h, h'⟩)
      · exact ⟨by omega, h'⟩
      · exact ⟨by omega, h'⟩
  rw [hs, Finset.card_union_of_disjoint]
  · congr 1
    by_cases hA : Ahead γ ⟨m, hm⟩ n
    · rw [if_pos hA]
      rw [show (Finset.univ.filter fun o : Fin 8 => o = ⟨m, hm⟩ ∧ Ahead γ o n) = {⟨m, hm⟩} from ?_]
      · simp
      · ext o
        simp only [Finset.mem_filter, Finset.mem_univ, true_and, Finset.mem_singleton]
        exact ⟨fun h => h.1, fun h => ⟨h, h ▸ hA⟩⟩
    · rw [if_neg hA, Finset.card_eq_zero]
      ext o
      simp only [Finset.mem_filter, Finset.mem_univ, true_and]
      refine ⟨fun ⟨h, h'⟩ => absurd (h ▸ h') hA, fun h => absurd h (Finset.notMem_empty o)⟩
  · rw [Finset.disjoint_left]
    intro o ho ho'
    simp only [Finset.mem_filter, Finset.mem_univ, true_and, Fin.ext_iff] at ho ho'
    omega

theorem Ahead.irrefl (γ : Fin 8 → EReal) (n : Fin 8) : ¬ Ahead γ n n := by
  rintro (h | ⟨-, h⟩) <;> exact lt_irrefl _ h

/-- Of at most three past blocks every one has fewer than three ahead of it. -/
theorem ahead_few (γ : Fin 8 → EReal) (i : ℕ) (hi : i ≤ 3) (n : Fin 8) (hn : n.val < i) : ahead γ i n < 3 := by
  classical
  have hsub : (Finset.univ.filter fun o : Fin 8 => o.val < i ∧ Ahead γ o n) ⊆ (Finset.univ.filter fun o : Fin 8 => o.val < 3).erase n := by
    intro o ho
    simp only [Finset.mem_filter, Finset.mem_univ, true_and, Finset.mem_erase] at ho ⊢
    refine ⟨fun h => Ahead.irrefl γ n (h ▸ ho.2), by omega⟩
  have hc := Finset.card_le_card hsub
  rw [Finset.card_erase_of_mem (by simp only [Finset.mem_filter, Finset.mem_univ, true_and]; omega),
    show (Finset.univ.filter fun o : Fin 8 => o.val < 3).card = 3 by decide] at hc
  unfold ahead
  omega

/-- Query `s` sees key `κ`: a key of its own block that is not later, or a key of one of the three past blocks with the greatest gates. -/
def Visible (γ : Fin 8 → EReal) (s κ : Fin 2048) : Prop :=
  (κ.val / 256 = s.val / 256 ∧ κ ≤ s) ∨ (κ.val / 256 < s.val / 256 ∧ ahead γ (s.val / 256) ⟨κ.val / 256, by omega⟩ < 3)

theorem visible_own (γ : Fin 8 → EReal) (s κ : Fin 2048) (h : κ.val / 256 = s.val / 256) : Visible γ s κ ↔ κ.val ≤ s.val :=
  ⟨fun hv => hv.elim (fun h' => h'.2) fun h' => absurd h'.1 (by omega), fun hv => .inl ⟨h, hv⟩⟩

theorem visible_past (γ : Fin 8 → EReal) (s κ : Fin 2048) (h : κ.val / 256 < s.val / 256) :
    Visible γ s κ ↔ ahead γ (s.val / 256) ⟨κ.val / 256, by omega⟩ < 3 :=
  ⟨fun hv => hv.elim (fun h' => absurd h'.1 (by omega)) fun h' => h'.2, fun hv => .inr ⟨h, hv⟩⟩

theorem not_visible_later (γ : Fin 8 → EReal) (s κ : Fin 2048) (h : s.val / 256 < κ.val / 256) : ¬ Visible γ s κ := by
  rintro (h' | h') <;> omega

theorem visible_self (γ : Fin 8 → EReal) (s : Fin 2048) : Visible γ s s := (visible_own γ s s rfl).2 le_rfl

theorem fold_max_ne_top {ι : Type} (S : Finset ι) (f : ι → EReal) (h : ∀ x ∈ S, f x ≠ ⊤) : S.fold max ⊥ f ≠ ⊤ := by
  rw [← lt_top_iff_ne_top, Finset.fold_max_lt]
  exact ⟨bot_lt_top, fun x hx => lt_top_iff_ne_top.2 (h x hx)⟩

theorem fold_max_ne_bot {ι : Type} (S : Finset ι) (f : ι → EReal) (y : ι) (hy : y ∈ S) (h : f y ≠ ⊥) : S.fold max ⊥ f ≠ ⊥ := by
  rw [← bot_lt_iff_ne_bot, Finset.lt_fold_max]
  exact .inr ⟨y, hy, bot_lt_iff_ne_bot.2 h⟩

theorem coe_sum {ι : Type} (S : Finset ι) (f : ι → ℝ) : ((∑ x ∈ S, f x : ℝ) : EReal) = ∑ x ∈ S, (f x : EReal) := by
  classical
  induction S using Finset.induction_on with
  | empty => rfl
  | insert a S ha ih => rw [Finset.sum_insert ha, Finset.sum_insert ha, EReal.coe_add, ih]

/-- A nonnegative real factor goes into a sum. -/
theorem sum_mul_real {ι : Type} (S : Finset ι) (f : ι → EReal) (x : ℝ) (hx : 0 ≤ x) : (∑ k ∈ S, f k) * (x : EReal) = ∑ k ∈ S, f k * (x : EReal) := by
  classical
  induction S using Finset.induction_on with
  | empty => exact zero_mul _
  | insert a S ha ih =>
    rw [Finset.sum_insert ha, Finset.sum_insert ha, ← ih]
    exact EReal.right_distrib_of_nonneg_of_ne_top (EReal.coe_nonneg.2 hx) (EReal.coe_ne_top x) _ _

theorem div_coe (x y : ℝ) (hy : y ≠ 0) : Ideal.div (x : EReal) (y : EReal) = ((x / y : ℝ) : EReal) := by
  have hy' : (y : EReal) ≠ 0 := fun h => hy (EReal.coe_eq_zero.1 h)
  unfold Ideal.div
  rw [if_neg hy', ← EReal.coe_inv, ← EReal.coe_mul, div_eq_mul_inv]

/-- The weight of an entry: its exponential where it is visible, nothing elsewhere. -/
def mass {ι : Type} (p : ι → Prop) (x : ι → ℝ) (k : ι) : ℝ := by classical exact if p k then Real.exp (x k) else 0

theorem mass_nonneg {ι : Type} (p : ι → Prop) (x : ι → ℝ) (k : ι) : 0 ≤ mass p x k := by
  unfold mass
  split
  · exact (Real.exp_pos _).le
  · exact le_rfl

theorem mass_sum_pos {ι : Type} [Fintype ι] (p : ι → Prop) (x : ι → ℝ) (k₀ : ι) (h₀ : p k₀) : 0 < ∑ k, mass p x k := by
  refine Finset.sum_pos' (fun k _ => mass_nonneg p x k) ⟨k₀, Finset.mem_univ _, ?_⟩
  unfold mass
  rw [if_pos h₀]
  exact Real.exp_pos _

/-- The softmax average over the visible entries. -/
def average {ι : Type} [Fintype ι] (p : ι → Prop) (x : ι → ℝ) (v : ι → EReal) : EReal :=
  ∑ k, v k * ((mass p x k / ∑ j, mass p x j : ℝ) : EReal)

/-- Powers of two of scores scaled by `1/log 2`, shifted by any real and divided by their sum, are the softmax average. -/
theorem exp2_average {ι : Type} [Fintype ι] (p : ι → Prop) (x : ι → ℝ) (v : ι → EReal) (S : ι → EReal) (μ : ℝ)
    (hS : ∀ k, S k = (by classical exact if p k then ((x k / Real.log 2 : ℝ) : EReal) else ⊥)) (k₀ : ι) (h₀ : p k₀) :
    (∑ k, v k * Ideal.exp2 (S k - (μ : EReal))) * Ideal.div 1 (∑ k, 1 * Ideal.exp2 (S k - (μ : EReal))) = average p x v := by
  classical
  have hl : Real.log 2 ≠ 0 := (Real.log_pos one_lt_two).ne'
  have he : ∀ k, Ideal.exp2 (S k - (μ : EReal)) = ((mass p x k * Real.exp (-(Real.log 2 * μ)) : ℝ) : EReal) := fun k => by
    rw [hS k]
    unfold mass
    split
    · rw [← EReal.coe_sub, Ideal.exp2_coe]
      refine congrArg _ ?_
      show (2 : ℝ) ^ (x k / Real.log 2 - μ) = _
      rw [Real.rpow_def_of_pos two_pos, ← Real.exp_add]
      congr 1
      field_simp
      ring
    · rw [EReal.bot_sub, Ideal.exp2_bot, zero_mul, EReal.coe_zero]
  simp only [he, one_mul]
  have hZ := mass_sum_pos p x k₀ h₀
  have hE := Real.exp_pos (-(Real.log 2 * μ))
  rw [← coe_sum, ← Finset.sum_mul, ← EReal.coe_one, div_coe _ _ (mul_pos hZ hE).ne', sum_mul_real _ _ _ (by positivity)]
  unfold average
  refine Finset.sum_congr rfl fun k _ => ?_
  rw [mul_assoc, ← EReal.coe_mul]
  congr 2
  field_simp

/-- Exponentials shifted by any real, each divided by their sum, are the softmax average. -/
theorem exp_average {ι : Type} [Fintype ι] (p : ι → Prop) (x : ι → ℝ) (S : ι → EReal) (μ : ℝ)
    (hS : ∀ k, S k = (by classical exact if p k then ((x k : ℝ) : EReal) else ⊥)) (k₀ : ι) (h₀ : p k₀) (k : ι) :
    Ideal.div (Ideal.exp (S k - (μ : EReal))) (∑ j, Ideal.exp (S j - (μ : EReal))) = ((mass p x k / ∑ j, mass p x j : ℝ) : EReal) := by
  classical
  have he : ∀ k, Ideal.exp (S k - (μ : EReal)) = ((mass p x k * Real.exp (-μ) : ℝ) : EReal) := fun k => by
    rw [hS k]
    unfold mass
    split
    · rw [← EReal.coe_sub, Ideal.exp_coe, ← Real.exp_add]
      rfl
    · rw [EReal.bot_sub, Ideal.exp_bot, zero_mul, EReal.coe_zero]
  simp only [he]
  have hZ := mass_sum_pos p x k₀ h₀
  have hE := Real.exp_pos (-μ)
  rw [← coe_sum, ← Finset.sum_mul, div_coe _ _ (mul_pos hZ hE).ne']
  congr 1
  field_simp

/-- Two numberings of the same visible entries have the same average. -/
theorem average_reindex {ι κ : Type} [Fintype ι] [Fintype κ] (p : ι → Prop) (p' : κ → Prop) (x : κ → ℝ) (v : κ → EReal) (f : ι → κ)
    (hinj : ∀ a b, p a → p b → f a = f b → a = b) (hto : ∀ a, p a → p' (f a)) (hsurj : ∀ b, p' b → ∃ a, p a ∧ f a = b) :
    average p (fun a => x (f a)) (fun a => v (f a)) = average p' x v := by
  classical
  have hsum : ∀ {M : Type} [AddCommMonoid M] (F : κ → M), (∑ a, if p a then F (f a) else 0) = ∑ b, if p' b then F b else 0 := by
    intro M _ F
    rw [← Finset.sum_filter, ← Finset.sum_filter]
    refine Finset.sum_bij (fun a _ => f a) (fun a ha => ?_) (fun a ha b hb h => ?_) (fun b hb => ?_) fun a _ => rfl
    · simp only [Finset.mem_filter, Finset.mem_univ, true_and] at ha ⊢
      exact hto a ha
    · simp only [Finset.mem_filter, Finset.mem_univ, true_and] at ha hb
      exact hinj a b ha hb h
    · simp only [Finset.mem_filter, Finset.mem_univ, true_and] at hb ⊢
      obtain ⟨a, ha, h⟩ := hsurj b hb
      exact ⟨a, ha, h⟩
  have hZ : ∑ a, mass p (fun a => x (f a)) a = ∑ b, mass p' x b := by
    unfold mass
    exact hsum fun b => Real.exp (x b)
  unfold average
  rw [hZ]
  have hl : ∀ a, v (f a) * ((mass p (fun a => x (f a)) a / ∑ j, mass p' x j : ℝ) : EReal)
      = if p a then v (f a) * ((Real.exp (x (f a)) / ∑ j, mass p' x j : ℝ) : EReal) else 0 := fun a => by
    by_cases h : p a
    · rw [if_pos h]; unfold mass; rw [if_pos h]
    · rw [if_neg h]; unfold mass; rw [if_neg h, zero_div, EReal.coe_zero, mul_zero]
  have hr : ∀ b, v b * ((mass p' x b / ∑ j, mass p' x j : ℝ) : EReal)
      = if p' b then v b * ((Real.exp (x b) / ∑ j, mass p' x j : ℝ) : EReal) else 0 := fun b => by
    by_cases h : p' b
    · rw [if_pos h]; congr 2; unfold mass; rw [if_pos h]
    · rw [if_neg h]; rw [show mass p' x b = 0 by unfold mass; rw [if_neg h], zero_div, EReal.coe_zero, mul_zero]
  simp only [hl, hr]
  exact hsum fun b => v b * ((Real.exp (x b) / ∑ j, mass p' x j : ℝ) : EReal)

end Cert.Attn
-- ==== Proof.RefTop.lean ====
/-
  THE THREE GREATEST GATES. The stable sort by descending gate puts at position `r` the block with `r` blocks ahead of it.
-/
module

public import proofs.«01_k».proof.Proof.Spec
public import Idealize.ShloMosaic.Lib.PlanTiles.StableSort

@[expose] public section

noncomputable section

namespace Cert.Attn

open Idealize.ShloMosaic
open scoped BigOperators

/-- The block at each position of the stable order by descending gate. -/
def placed (γ : Fin 8 → EReal) (r : Fin 8) : Fin 8 := sortedFrom (fun k k' => decide (γ k' < γ k)) r

/-- How many gates are below a block's: a rank with the order of the gates. -/
def lower (γ : Fin 8 → EReal) (n : Fin 8) : ℕ := (Finset.univ.filter fun o => γ o < γ n).card

theorem lower_lt (γ : Fin 8 → EReal) (a b : Fin 8) : lower γ a < lower γ b ↔ γ a < γ b := by
  have mono : ∀ a b, γ a ≤ γ b → lower γ a ≤ lower γ b := fun a b h =>
    Finset.card_le_card fun o ho => by
      simp only [Finset.mem_filter, Finset.mem_univ, true_and] at ho ⊢
      exact lt_of_lt_of_le ho h
  constructor
  · intro h
    by_contra hn
    exact absurd (mono b a (not_lt.1 hn)) (by omega)
  · intro h
    refine Finset.card_lt_card ⟨fun o ho => ?_, fun hs => ?_⟩
    · simp only [Finset.mem_filter, Finset.mem_univ, true_and] at ho ⊢
      exact lt_trans ho h
    · have := hs (show a ∈ _ by simp only [Finset.mem_filter, Finset.mem_univ, true_and]; exact h)
      simp only [Finset.mem_filter, Finset.mem_univ, true_and] at this
      exact lt_irrefl _ this

theorem Ahead.asymm {γ : Fin 8 → EReal} {a b : Fin 8} (h : Ahead γ a b) : ¬ Ahead γ b a := by
  rcases h with h | ⟨h, h'⟩ <;> rintro (g | ⟨g, g'⟩)
  · exact lt_asymm h g
  · exact lt_irrefl _ (g ▸ h)
  · exact lt_irrefl _ (h ▸ g)
  · exact lt_asymm h' g'

theorem placed_ahead (γ : Fin 8 → EReal) (a b : Fin 8) (h : a < b) : Ahead γ (placed γ a) (placed γ b) := by
  have hd : (fun k k' : Fin 8 => decide (γ k' < γ k)) = fun k k' => decide (lower γ k' < lower γ k) := by
    funext k k'
    exact decide_eq_decide.2 (lower_lt γ k' k).symm
  have hp := PlanTiles.pairwise_stableSort_lex (lower γ) (· < ·) (List.finRange 8) (List.pairwise_lt_finRange 8)
  have hq := List.pairwise_iff_get.1 hp (a.cast (length_sortPositions 8 _).symm) (b.cast (length_sortPositions 8 _).symm) h
  unfold placed
  rw [hd]
  rcases hq with hq | ⟨hq, hq'⟩
  · exact .inl ((lower_lt γ _ _).1 hq)
  · refine .inr ⟨le_antisymm ?_ ?_, hq'⟩
    · exact not_lt.1 fun hc => ((lower_lt γ _ _).2 hc).ne hq.symm
    · exact not_lt.1 fun hc => ((lower_lt γ _ _).2 hc).ne hq

theorem placed_injective (γ : Fin 8 → EReal) : Function.Injective (placed γ) := sortedFrom_injective _

theorem placed_surjective (γ : Fin 8 → EReal) : Function.Surjective (placed γ) := sortedFrom_surjective _

/-- The block at position `r` has `r` blocks ahead of it. -/
theorem ahead_placed (γ : Fin 8 → EReal) (r : Fin 8) : ahead γ 8 (placed γ r) = r.val := by
  classical
  unfold ahead
  have e : (Finset.univ.filter fun o : Fin 8 => o.val < 8 ∧ Ahead γ o (placed γ r)) = (Finset.univ.filter fun a : Fin 8 => a < r).image (placed γ) := by
    ext o
    obtain ⟨a, rfl⟩ := placed_surjective γ o
    simp only [Finset.mem_filter, Finset.mem_univ, true_and, Finset.mem_image]
    constructor
    · rintro ⟨-, h⟩
      refine ⟨a, ?_, rfl⟩
      rcases lt_trichotomy a r with h1 | h1 | h1
      · exact h1
      · exact absurd (h1 ▸ h) (Ahead.irrefl γ _)
      · exact absurd (placed_ahead γ r a h1) h.asymm
    · rintro ⟨c, hc, e⟩
      obtain rfl := placed_injective γ e
      exact ⟨(placed γ c).isLt, placed_ahead γ c r hc⟩
  rw [e, Finset.card_image_of_injective _ (placed_injective γ)]
  exact (by decide : ∀ r : Fin 8, (Finset.univ.filter fun a : Fin 8 => a < r).card = r.val) r

variable (γ : Fin 8 → EReal) (i : ℕ) (hr : ∀ n : Fin 8, n.val < i → ⊥ < γ n) (hb : ∀ n : Fin 8, i ≤ n.val → γ n = ⊥)

include hr hb in
/-- Only past blocks are ahead of a past block. -/
theorem ahead_past (n : Fin 8) (hn : n.val < i) : ahead γ i n = ahead γ 8 n := by
  classical
  unfold ahead
  congr 1
  ext o
  simp only [Finset.mem_filter, Finset.mem_univ, true_and, o.isLt]
  refine ⟨fun h => h.2, fun h => ⟨?_, h⟩⟩
  by_contra hc
  rw [not_lt] at hc
  rcases h with h | ⟨h, -⟩
  · rw [hb o hc] at h; exact absurd h not_lt_bot
  · have := hr n hn
    rw [← h, hb o hc] at this
    exact lt_irrefl _ this

include hr hb in
/-- The first `i` positions hold past blocks. -/
theorem placed_past (r : Fin 8) (hri : r.val < i) : (placed γ r).val < i := by
  classical
  by_contra hc
  rw [not_lt] at hc
  have h := ahead_placed γ r
  have hi : i < 8 := lt_of_le_of_lt hc (placed γ r).isLt
  have hs : (Finset.univ.filter fun o : Fin 8 => o.val < i).card ≤ ahead γ 8 (placed γ r) := by
    refine Finset.card_le_card fun o ho => ?_
    simp only [Finset.mem_filter, Finset.mem_univ, true_and] at ho ⊢
    refine ⟨o.isLt, .inl ?_⟩
    rw [hb _ hc]
    exact hr o ho
  have hcard : ∀ i : Fin 8, (Finset.univ.filter fun o : Fin 8 => o.val < i.val).card = i.val := by decide
  rw [hcard ⟨i, hi⟩, h] at hs
  exact absurd hri (not_lt.2 hs)

include hr hb in
/-- A selected position holds a selected block. -/
theorem placed_selected (r : Fin 3) (hri : r.val < i) :
    (placed γ (r.castLE (by omega))).val < i ∧ ahead γ i (placed γ (r.castLE (by omega))) < 3 := by
  have h := placed_past γ i hr hb (r.castLE (by omega)) hri
  refine ⟨h, ?_⟩
  rw [ahead_past γ i hr hb _ h, ahead_placed]
  exact r.isLt

include hr hb in
/-- A selected block is at a selected position. -/
theorem selected_placed (n : Fin 8) (hn : n.val < i) (ha : ahead γ i n < 3) :
    ∃ r : Fin 3, r.val < i ∧ placed γ (r.castLE (by omega)) = n := by
  classical
  obtain ⟨r, rfl⟩ := placed_surjective γ n
  rw [ahead_past γ i hr hb _ hn, ahead_placed] at ha
  refine ⟨⟨r.val, ha⟩, ?_, rfl⟩
  by_contra hc
  simp only [not_lt] at hc
  have h := ahead_placed γ r
  rw [← ahead_past γ i hr hb _ hn] at h
  have hlt : ahead γ i (placed γ r) < (Finset.univ.filter fun o : Fin 8 => o.val < i).card := by
    refine Finset.card_lt_card ⟨fun o ho => ?_, fun hs => ?_⟩
    · simp only [Finset.mem_filter, Finset.mem_univ, true_and] at ho ⊢
      exact ho.1
    · have := hs (show placed γ r ∈ _ by simp only [Finset.mem_filter, Finset.mem_univ, true_and]; exact hn)
      simp only [Finset.mem_filter, Finset.mem_univ, true_and] at this
      exact Ahead.irrefl γ _ this.2
  have hcard : ∀ i : Fin 8, (Finset.univ.filter fun o : Fin 8 => o.val < i.val).card = i.val := by decide
  have hi : i < 8 := by omega
  rw [hcard ⟨i, hi⟩, h] at hlt
  exact absurd hc (not_le.2 hlt)

end Cert.Attn
-- ==== Proof.Unit.lean ====
/-
  ONE UNIT OF THE ATTENTION, IN THE KERNEL'S OPERATIONS. A grid point works on one batch element and four heads; for each head it
  treats eight blocks of 256 queries, one after the other. Such a pair (head, query block `i`) is a unit. These definitions state
  what a unit computes, once for every `i`: the score tiles it stores in the scratch buffer, the running maximum of its rows, and
  the block of the result. They are over any float semantics `F`.
-/
module

public import Idealize.ShloMosaic.PureOps
public import Idealize.ShloMosaic.Lib.MatmulPlain

@[expose] public section

noncomputable section

namespace Cert.Attn

open Idealize.ShloMosaic

/-- The shape of a matrix. -/
abbrev Mat (a b : ℕ) : Shape := ⟨2, ![a, b]⟩

/-- A block of rows or columns lies within the matrix. -/
theorem slices2 {a b c d x y : ℕ} (h0 : x + c ≤ a) (h1 : y + d ≤ b) : (Mat a b).Slices ![x, y] (Mat c d) :=
  ⟨rfl, fun ax => by
    match ax with
    | ⟨0, _⟩ => exact h0
    | ⟨1, _⟩ => exact h1⟩

/-- A row spreads over all rows. -/
theorem spreads (a b : ℕ) : (Mat 1 b).Broadcasts (Mat a b) :=
  ⟨le_rfl, fun ax => by
    match ax with
    | ⟨0, _⟩ => exact .inl rfl
    | ⟨1, _⟩ => exact .inr fun _ => rfl⟩

variable {F : FTy → Type} [FloatOps F]

/-- −∞ as a float word. -/
def negInf : F .f32 := Scalar.ofBits .f32 0xFF800000#32

/-- The gate of every query against every key block's mean: row `n` is the product of the mean of block `n` with the queries. -/
def gate (q k : FVec F (Mat 2048 128) .bf16) : FVec F (Mat 8 2048) .f32 :=
  FloatOps.matmul (DotDims.transposedRhs 8 128 2048) none
    (truncf .bf16 (divf
      (multiReduction .add [1] (Mat 8 128)
        (shapeCast (⟨3, ![8, 256, 128]⟩ : Shape) (extf .f32 k (by decide)) (by decide)) 0x00000000#32 (by decide) (.inl rfl) rfl)
      (broadcast _ (Scalar.ofBits .f32 0x43800000#32))) (by decide))
    q (constant _ .f32 0x00000000#32)

theorem vOnes_fits : Shape.Concatenates [Mat 128 2048, Mat 16 2048] (Mat 144 2048) 0 := by decide

/-- The values with the row of ones under them: rows 0–127 are the transposed values, row 128 is ones, the rest zeros. -/
def vOnes (v : FVec F (Mat 2048 128) .bf16) : FVec F (Mat 144 2048) .bf16 :=
  concatenate (Mat 144 2048) 0
    [⟨Mat 128 2048, transpose (Mat 128 2048) [1, 0] v (by decide)⟩,
     ⟨Mat 16 2048, truncf .bf16 (sitofp .f32 (extui 32 (cmpi .eq (iota .tc (Mat 16 2048) 32 [0] (by decide)) (broadcast _ 0#32)) (by decide))) (by decide)⟩]
    vOnes_fits

/-- Row number within the eight key blocks. -/
def rowNo : IVec (Mat 8 256) 32 := iota .tc (Mat 8 256) 32 [0] (by decide)

/-- The gate of query block `i` with −∞ at the blocks that are not past. -/
def gatePast (i : ℕ) (hi : i < 8) (g : FVec F (Mat 8 2048) .f32) : FVec F (Mat 8 256) .f32 :=
  select (cmpi .slt rowNo (broadcast _ (BitVec.ofNat 32 i)))
    (extractStridedSlice (Mat 8 256) ![0, 256 * i] g (slices2 (by omega) (by omega)))
    (broadcast _ negInf)

/-- Whether key block `o` goes before the row's block: a greater gate, or an equal one at a lower number. -/
def before (o : ℕ) (ho : o < 8) (gm : FVec F (Mat 8 256) .f32) : IVec (Mat 8 256) 1 :=
  ori (cmpf .ogt (broadcastTo (Mat 8 256) (extractStridedSlice (Mat 1 256) ![o, 0] gm (slices2 (by omega) (by omega))) (spreads 8 256)) gm)
    (andi (cmpf .oeq (broadcastTo (Mat 8 256) (extractStridedSlice (Mat 1 256) ![o, 0] gm (slices2 (by omega) (by omega))) (spreads 8 256)) gm)
      (cmpi .sgt rowNo (broadcast _ (BitVec.ofNat 32 o))))

/-- How many of the first `n` key blocks go before the row's block. -/
def rank (gm : FVec F (Mat 8 256) .f32) : (n : ℕ) → n ≤ 8 → IVec (Mat 8 256) 32
  | 0, _ => broadcast _ 0#32
  | n + 1, h => addi (rank gm n (by omega)) (extui 32 (before n (by omega) gm) (by decide))

/-- 0 at the past blocks with fewer than three before them, −∞ at the others. -/
def bias (i : ℕ) (hi : i < 8) (g : FVec F (Mat 8 2048) .f32) : FVec F (Mat 8 256) .f32 :=
  select (andi (cmpi .slt rowNo (broadcast _ (BitVec.ofNat 32 i)))
      (cmpi .slt (rank (gatePast i hi g) i (by omega)) (broadcast _ 3#32)))
    (broadcast _ (Scalar.ofBits .f32 0x00000000#32)) (broadcast _ negInf)

/-- The scores of query block `i` against the keys up to its end: a row is a key, a column a query. -/
def logits (i : ℕ) (hi : i < 8) (q : FVec F (Mat 2048 128) .bf16) (ks : FVec F (Mat (256 * (i + 1)) 128) .bf16) :
    FVec F (Mat (256 * (i + 1)) 256) .f32 :=
  FloatOps.matmul (DotDims.transposedRhs (256 * (i + 1)) 128 256) none ks
    (extractStridedSlice (Mat 256 128) ![256 * i, 0] q (slices2 (by omega) (by omega))) (constant _ .f32 0x00000000#32)

/-- Tile `n` of the scores. -/
def rawTile (i n : ℕ) (hn : n ≤ i) (st : FVec F (Mat (256 * (i + 1)) 256) .f32) : FVec F (Mat 256 256) .f32 :=
  if h : i = 0 then (by subst h; exact st) else extractStridedSlice (Mat 256 256) ![256 * n, 0] st (slices2 (by omega) (by omega))

/-- Tile `n` with the selection added to every row. -/
def selTile (i n : ℕ) (hn : n ≤ i) (hi : i < 8) (st : FVec F (Mat (256 * (i + 1)) 256) .f32) (b : FVec F (Mat 8 256) .f32) : FVec F (Mat 256 256) .f32 :=
  addf (rawTile i n hn st)
    (broadcastTo (Mat 256 256) (extractStridedSlice (Mat 1 256) ![n, 0] b (slices2 (by omega) (by omega))) (spreads 256 256))

/-- The diagonal tile: −∞ where the key is after the query. -/
def ownTile (i : ℕ) (st : FVec F (Mat (256 * (i + 1)) 256) .f32) : FVec F (Mat 256 256) .f32 :=
  select (cmpi .sle (iota .tc (Mat 256 256) 32 [0] (by decide)) (iota .tc (Mat 256 256) 32 [1] (by decide)))
    (rawTile i i le_rfl st) (broadcast _ negInf)

/-- The masked tile `n` of query block `i`: past tiles carry the selection once more than three blocks are past. -/
def tile (i n : ℕ) (hn : n ≤ i) (hi : i < 8) (q : FVec F (Mat 2048 128) .bf16) (ks : FVec F (Mat (256 * (i + 1)) 128) .bf16)
    (g : FVec F (Mat 8 2048) .f32) : FVec F (Mat 256 256) .f32 :=
  if n = i then ownTile i (logits i hi q ks)
  else if 3 < i then selTile i n hn hi (logits i hi q ks) (bias i hi g)
  else rawTile i n hn (logits i hi q ks)

/-- The greatest entry of every column of a tile. -/
def colMax (t : FVec F (Mat 256 256) .f32) : FVec F (Mat 1 256) .f32 :=
  shapeCast (Mat 1 256) (multiReduction .maximumf [0] (⟨1, ![256]⟩ : Shape) t 0xFF800000#32 (by decide) (.inl rfl) rfl) (by decide)

/-- The running maximum of the columns over tiles `0 … n`. -/
def runMax (i : ℕ) (hi : i < 8) (q : FVec F (Mat 2048 128) .bf16) (ks : FVec F (Mat (256 * (i + 1)) 128) .bf16)
    (g : FVec F (Mat 8 2048) .f32) : (n : ℕ) → n ≤ i → FVec F (Mat 1 256) .f32
  | 0, h => colMax (tile i 0 h hi q ks g)
  | n + 1, h => maximumf (runMax i hi q ks g n (by omega)) (colMax (tile i (n + 1) h hi q ks g))

/-- The block of the result: `2^(score − maximum)` summed against the values, over the same summed against ones. -/
def outBlock (i : ℕ) (vs : FVec F (Mat 144 (256 * (i + 1))) .bf16) (mx : FVec F (Mat 1 256) .f32)
    (s : FVec F (Mat (256 * (i + 1)) 256) .f32) : FVec F (Mat 256 128) .bf16 :=
  let num : FVec F (Mat 144 256) .f32 :=
    FloatOps.matmul (DotDims.plain 144 (256 * (i + 1)) 256) none vs
      (truncf .bf16 (exp2 (subf s (broadcastTo _ mx (spreads _ 256)))) (by decide)) (constant _ .f32 0x00000000#32)
  truncf .bf16 (transpose (Mat 256 128) [1, 0]
    (mulf (extractStridedSlice (Mat 128 256) ![0, 0] num (slices2 (by omega) (by omega)))
      (broadcastTo (Mat 128 256)
        (divf (broadcast _ (Scalar.ofBits .f32 0x3F800000#32))
          (extractStridedSlice (Mat 1 256) ![128, 0] num (slices2 (by omega) (by omega)))) (spreads 128 256))) (by decide)) (by decide)

end Cert.Attn
-- ==== Proof.Words.lean ====
/-
  THE RUN'S PIECES ARE THE UNITS'. A grid point's run leaves a list of 32 pieces in the result block and, on the way, 144 tiles in the
  scratch buffer. Here both lists are written once, unit by unit, from the definitions of Unit.lean, and are shown to be the run's own.
  Unit `u` is head `u / 8`, query block `u % 8`; it uses plane `u % 3` of the scratch, which is read back after the two units that
  follow have stored their tiles in the other planes.
-/
module

public import proofs.«01_k».proof.Proof.Unit
public import proofs.«01_k».proof.Proof.Gen.KernelIdeal.Value

@[expose] public section

set_option maxRecDepth 65536

noncomputable section

namespace Cert.Attn

open Cert.KernelIdeal Cert.KernelIdeal.Gen Idealize.ShloMosaic Idealize.ShloMosaic.TcCoe

variable {F : FTy → Type} [FloatOps F]

theorem inbHead (h : ℕ) (hh : h < 4) : ∀ a, (![0, 128 * h] : Fin 2 → ℕ) a + (Mat 2048 128).size a ≤ (Mat 2048 512).size a := fun a => by
  match a with
  | ⟨0, _⟩ => exact Nat.le_refl 2048
  | ⟨1, _⟩ => show 128 * h + 128 ≤ 512; omega

/-- Head `h` of a block of four heads' columns. -/
def headOf (h : ℕ) (hh : h < 4) (arg : Memref sig .tc .vmem S2048x512 .bf16) (harg : arg.IsWhole) (x : Vec F S2048x512 .bf16) :
    FVec F (Mat 2048 128) .bf16 :=
  shapeCast (Mat 2048 128)
    (View.readAt (Elt F) arg.view (Rect.unit (s := S2048x512) ![0, 128 * h] (Mat 2048 128).size (inbHead h hh)).toLoadRect (harg.unread x))
    rfl

/-- The first `256 (i + 1)` keys. -/
def keysTo (i : ℕ) (hi : i < 8) (k : FVec F (Mat 2048 128) .bf16) : FVec F (Mat (256 * (i + 1)) 128) .bf16 :=
  if h : i = 7 then h ▸ k else extractStridedSlice (Mat (256 * (i + 1)) 128) ![0, 0] k (slices2 (by omega) (by omega))

/-- The first `256 (i + 1)` columns of the values with ones. -/
def valsTo (i : ℕ) (hi : i < 8) (v : FVec F (Mat 144 2048) .bf16) : FVec F (Mat 144 (256 * (i + 1))) .bf16 :=
  if h : i = 7 then h ▸ v else extractStridedSlice (Mat 144 (256 * (i + 1))) ![0, 0] v (slices2 (by omega) (by omega))

section Lists

variable (q k v : (h : ℕ) → h < 4 → FVec F (Mat 2048 128) .bf16)

/-- Tile `n` of unit `u`. -/
def tileOf (u : ℕ) (hu : u < 32) (n : ℕ) (hn : n ≤ u % 8) : FVec F (Mat 256 256) .f32 :=
  tile (u % 8) n hn (by omega) (q (u / 8) (by omega)) (keysTo (u % 8) (by omega) (k (u / 8) (by omega)))
    (gate (q (u / 8) (by omega)) (k (u / 8) (by omega)))

/-- The running maximum of unit `u` over all its tiles. -/
def maxOf (u : ℕ) (hu : u < 32) : FVec F (Mat 1 256) .f32 :=
  runMax (u % 8) (by omega) (q (u / 8) (by omega)) (keysTo (u % 8) (by omega) (k (u / 8) (by omega)))
    (gate (q (u / 8) (by omega)) (k (u / 8) (by omega))) (u % 8) le_rfl

theorem inbPlane (p : ℕ) (hp : p < 3) : ∀ a, (![p, 0, 0] : Fin 3 → ℕ) a + S1x2048x256.size a ≤ S3x2048x256.size a := fun a => by
  match a with
  | ⟨0, _⟩ => show p + 1 ≤ 3; omega
  | ⟨1, _⟩ => exact Nat.le_refl 2048
  | ⟨2, _⟩ => exact Nat.le_refl 256

theorem inbRows (n r : ℕ) (h : n + r ≤ 2048) : ∀ a, (![n, 0] : Fin 2 → ℕ) a + (Mat r 256).size a ≤ S2048x256.size a := fun a => by
  match a with
  | ⟨0, _⟩ => exact h
  | ⟨1, _⟩ => exact Nat.le_refl 256

/-- Plane `p` of the scratch. -/
abbrev plane (p : ℕ) (hp : p < 3) : Rect S3x2048x256 := Rect.unit ![p, 0, 0] S1x2048x256.size (inbPlane p hp)

/-- Rows `n … n + r` of a plane. -/
abbrev rows (n r : ℕ) (h : n + r ≤ 2048) : Rect S2048x256 := Rect.unit ![n, 0] (Mat r 256).size (inbRows n r h)

theorem liftSizes : ∀ i : Fin 2, (![1, 2048, 256] : Fin 3 → ℕ) i.succ = (![2048, 256] : Fin 2 → ℕ) i := by decide

/-- The piece tile `n` of unit `u` makes of the scratch. -/
def tilePiece (u : ℕ) (hu : u < 32) (n : ℕ) (hn : n ≤ u % 8) : View.Piece (Elt F) S3x2048x256 .f32 :=
  ⟨(plane (u % 3) (by omega)).within ((rows (256 * n) 256 (by omega)).consLift ![1, 2048, 256] rfl liftSizes) (fun _ => rfl),
    Rect.payAlong (Rect.numel_consLift (rows (256 * n) 256 (by omega)) ![1, 2048, 256] rfl liftSizes)
      (shapeCast (Mat 256 256) (tileOf q k u hu n hn) rfl)⟩

/-- The first `n` tiles of unit `u` on top of what the scratch held. -/
def pushTiles (u : ℕ) (hu : u < 32) (L : List (View.Piece (Elt F) S3x2048x256 .f32)) : (n : ℕ) → n ≤ u % 8 + 1 → List (View.Piece (Elt F) S3x2048x256 .f32)
  | 0, _ => L
  | n + 1, h => tilePiece q k u hu n (by omega) :: pushTiles u hu L n (by omega)

/-- The scratch after the first `u` units' tiles. -/
def scratch : (u : ℕ) → u ≤ 32 → List (View.Piece (Elt F) S3x2048x256 .f32)
  | 0, _ => []
  | u + 1, h => pushTiles q k u (by omega) (scratch u (by omega)) (u % 8 + 1) le_rfl

/-- The scores of unit `u` as it reads them back. -/
def scoresOf (arg6 : Memref sig .tc .vmem S3x2048x256 .f32) (u : ℕ) (hu : u < 32) : FVec F (Mat (256 * (u % 8 + 1)) 256) .f32 :=
  LoadRect.valAlong (LoadRect.numel_consLift (rows 0 (256 * (u % 8 + 1)) (by omega)).toLoadRect ![1, 2048, 256] rfl liftSizes)
    (arg6.view.readCov (scratch q k (min (u + 3) 32) (by omega))
      ((plane (u % 3) (by omega)).withinL ((rows 0 (256 * (u % 8 + 1)) (by omega)).toLoadRect.consLift ![1, 2048, 256] rfl liftSizes) (fun _ => rfl)))

/-- The block of the result that unit `u` computes. -/
def blockOf (arg6 : Memref sig .tc .vmem S3x2048x256 .f32) (u : ℕ) (hu : u < 32) : FVec F (Mat 256 128) .bf16 :=
  outBlock (u % 8) (valsTo (u % 8) (by omega) (vOnes (v (u / 8) (by omega)))) (maxOf q k u hu) (scoresOf q k arg6 u hu)

theorem inbOut (i h : ℕ) (hi : i < 8) (hh : h < 4) : ∀ a, (![256 * i, 128 * h] : Fin 2 → ℕ) a + (Mat 256 128).size a ≤ S2048x512.size a := fun a => by
  match a with
  | ⟨0, _⟩ => show 256 * i + 256 ≤ 2048; omega
  | ⟨1, _⟩ => show 128 * h + 128 ≤ 512; omega

/-- The result block after the first `u` units. -/
def outs (arg6 : Memref sig .tc .vmem S3x2048x256 .f32) : (u : ℕ) → u ≤ 32 → List (View.Piece (Elt F) S2048x512 .bf16)
  | 0, _ => []
  | u + 1, h => ⟨Rect.unit ![256 * (u % 8), 128 * (u / 8)] (Mat 256 128).size (inbOut _ _ (by omega) (by omega)), blockOf q k v arg6 u (by omega)⟩
      :: outs arg6 u (by omega)

end Lists

/-- A grid point's run leaves the units' pieces. -/
theorem run_pieces (c : Dev nD) (i : grid0.Coords) (arg2 : Memref sig .tc .vmem S2048x512 .bf16) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S3x2048x256 .f32) (harg6 : arg6.IsWhole)
    (x0 x1 x2 : Vec F S2048x512 .bf16) :
    (kernelRun0_A (F := F) c i arg2 harg2 arg3 harg3 arg4 harg4 arg5 harg5 arg6 harg6 x0 x1 x2).1
      = outs (fun h hh => headOf h hh arg2 harg2 x0) (fun h hh => headOf h hh arg3 harg3 x1) (fun h hh => headOf h hh arg4 harg4 x2) arg6 32 le_rfl := by
  sl_kernel_rfl

end Cert.Attn
-- ==== Proof.Readback.lean ====
/-
  WHAT A UNIT READS BACK, AND WHAT THE RESULT BLOCK HOLDS. The scores a unit reads from the scratch are its own tiles, stacked: the two
  units that stored in between used the other two planes. And the entry of the result block at rows of query block `i` and columns of
  head `h` is that unit's block.
-/
module

public import proofs.«01_k».proof.Proof.Words
public import Idealize.ShloMosaic.Lib.Pointwise

@[expose] public section

set_option maxRecDepth 16384

noncomputable section

namespace Cert.Attn

open Cert.KernelIdeal Cert.KernelIdeal.Gen Idealize.ShloMosaic Idealize.ShloMosaic.TcCoe

variable {F : FTy → Type} [FloatOps F]
variable (q k v : (h : ℕ) → h < 4 → FVec F (Mat 2048 128) .bf16)

/-- An index of the scratch. -/
abbrev at3 (p y c : ℕ) (hp : p < 3) (hy : y < 2048) (hc : c < 256) : S3x2048x256.Idx :=
  ix3 (⟨p, hp⟩ : Fin 3) (⟨y, hy⟩ : Fin 2048) (⟨c, hc⟩ : Fin 256)

/-- A tile just stored reads back as the tile. -/
theorem canon_tile_hit (u : ℕ) (hu : u < 32) (n : ℕ) (hn : n ≤ u % 8) (L : List (View.Piece (Elt F) S3x2048x256 .f32)) (r c : ℕ) (hr : r < 256) (hc : c < 256) :
    View.canon (tilePiece q k u hu n hn :: L) (at3 (u % 3) (256 * n + r) c (by omega) (by omega) hc)
      = tileOf q k u hu n hn (ix2 (⟨r, hr⟩ : Fin 256) (⟨c, hc⟩ : Fin 256)) := by
  have key : at3 (u % 3) (256 * n + r) c (by omega) (by omega) hc
      = (tilePiece q k u hu n hn).1.emb (fun a => match a with | ⟨0, _⟩ => ⟨0, Nat.one_pos⟩ | ⟨1, _⟩ => ⟨r, hr⟩ | ⟨2, _⟩ => ⟨c, hc⟩) := by
    funext a
    apply Fin.ext
    match a with
    | ⟨0, _⟩ => show u % 3 = (u % 3 + 0) + 1 * 0; omega
    | ⟨1, _⟩ => show 256 * n + r = (0 + 256 * n) + 1 * r; omega
    | ⟨2, _⟩ => show c = (0 + 0) + 1 * c; omega
  rw [key]
  refine (View.canon_cons_emb _ _ _ _).trans ?_
  refine (Rect.payAlong_consLift (rows (256 * n) 256 (by omega)) ![1, 2048, 256] rfl liftSizes _ _ _ (ix2 (⟨r, hr⟩ : Fin 256) (⟨c, hc⟩ : Fin 256)) ?_).trans ?_
  · intro a
    match a with
    | ⟨0, _⟩ => rfl
    | ⟨1, _⟩ => rfl
  · rw [shapeCast_self]

/-- Off its rows or its plane a tile's store changes nothing. -/
theorem canon_tile_miss (u : ℕ) (hu : u < 32) (n : ℕ) (hn : n ≤ u % 8) (L : List (View.Piece (Elt F) S3x2048x256 .f32)) (p y c : ℕ) (hp : p < 3) (hy : y < 2048)
    (hc : c < 256) (h : p ≠ u % 3 ∨ y < 256 * n ∨ 256 * n + 256 ≤ y) :
    View.canon (tilePiece q k u hu n hn :: L) (at3 p y c hp hy hc) = View.canon L (at3 p y c hp hy hc) := by
  refine View.canon_cons_of_not_mem _ _ fun hm => ?_
  have hm := (LoadRect.mem_set _).mp hm
  obtain ⟨j0, hj0, e0⟩ := hm 0
  obtain ⟨j1, hj1, e1⟩ := hm 1
  change j0 < 1 at hj0
  change p = (u % 3 + 0) + 1 * j0 at e0
  change j1 < 256 at hj1
  change y = (0 + 256 * n) + 1 * j1 at e1
  omega

/-- The first `m` tiles of a unit read back as these tiles; -/
theorem canon_push_hit (u : ℕ) (hu : u < 32) (L : List (View.Piece (Elt F) S3x2048x256 .f32)) (m : ℕ) (hm : m ≤ u % 8 + 1) (n : ℕ) (hn : n < m) (r c : ℕ) (hr : r < 256)
    (hc : c < 256) :
    View.canon (pushTiles q k u hu L m hm) (at3 (u % 3) (256 * n + r) c (by omega) (by omega) hc)
      = tileOf q k u hu n (by omega) (ix2 (⟨r, hr⟩ : Fin 256) (⟨c, hc⟩ : Fin 256)) := by
  induction m with
  | zero => omega
  | succ m ih =>
    rcases Nat.lt_or_ge n m with h | h
    · exact (canon_tile_miss q k u hu m (by omega) _ _ _ _ _ _ _ (.inr (.inl (by omega)))).trans (ih (by omega) h)
    · obtain rfl : n = m := by omega
      exact canon_tile_hit q k u hu n (by omega) _ r c hr hc

/-- in another plane the scratch is as before. -/
theorem canon_push_miss (u : ℕ) (hu : u < 32) (L : List (View.Piece (Elt F) S3x2048x256 .f32)) (m : ℕ) (hm : m ≤ u % 8 + 1) (p y c : ℕ) (hp : p < 3) (hy : y < 2048)
    (hc : c < 256) (h : p ≠ u % 3) :
    View.canon (pushTiles q k u hu L m hm) (at3 p y c hp hy hc) = View.canon L (at3 p y c hp hy hc) := by
  induction m with
  | zero => rfl
  | succ m ih => exact (canon_tile_miss q k u hu m (by omega) _ _ _ _ _ _ _ (.inl h)).trans (ih (by omega))

/-- Up to two units later a unit's tiles are still in its plane. -/
theorem canon_scratch (u : ℕ) (hu : u < 32) (w : ℕ) (hw : w ≤ 32) (h1 : u + 1 ≤ w) (h3 : w ≤ u + 3) (n : ℕ) (hn : n ≤ u % 8) (r c : ℕ) (hr : r < 256) (hc : c < 256) :
    View.canon (scratch q k w hw) (at3 (u % 3) (256 * n + r) c (by omega) (by omega) hc)
      = tileOf q k u hu n hn (ix2 (⟨r, hr⟩ : Fin 256) (⟨c, hc⟩ : Fin 256)) := by
  induction w with
  | zero => omega
  | succ w ih =>
    rcases Nat.lt_or_ge u w with h | h
    · exact (canon_push_miss q k w (by omega) _ _ le_rfl _ _ _ _ _ _ (by omega)).trans (ih (by omega) (by omega) (by omega))
    · obtain rfl : u = w := by omega
      exact canon_push_hit q k u hu _ _ le_rfl n (by omega) r c hr hc

/-- The scores a unit reads back: row `256 n + r` is row `r` of its tile `n`. -/
theorem scoresOf_apply (arg6 : Memref sig .tc .vmem S3x2048x256 .f32) (u : ℕ) (hu : u < 32) (n : ℕ) (hn : n ≤ u % 8) (r c : ℕ) (hr : r < 256) (hc : c < 256) :
    scoresOf q k arg6 u hu (ix2 (⟨256 * n + r, by omega⟩ : Fin (256 * (u % 8 + 1))) (⟨c, hc⟩ : Fin 256))
      = tileOf q k u hu n hn (ix2 (⟨r, hr⟩ : Fin 256) (⟨c, hc⟩ : Fin 256)) := by
  unfold scoresOf
  rw [View.readCov_eq_canon']
  show View.canon _ (LoadRect.idx _ (Shape.reshapeEquiv _ _)) = _
  refine Eq.trans (congrArg _ ?_) (canon_scratch q k u hu (min (u + 3) 32) (by omega) (by omega) (by omega) n hn r c hr hc)
  refine (congrArg (LoadRect.idx _) (Shape.reshapeEquiv_cons_one (d := (Mat (256 * (u % 8 + 1)) 256).size) _ _)).trans ?_
  funext a
  apply Fin.ext
  match a with
  | ⟨0, _⟩ => show (u % 3 + 0) + 1 * 0 = u % 3; omega
  | ⟨1, _⟩ => show (0 + 0) + 1 * (256 * n + r) = 256 * n + r; omega
  | ⟨2, _⟩ => show (0 + 0) + 1 * c = c; omega

/-- An index of the result block. -/
abbrev at2 (y x : ℕ) (hy : y < 2048) (hx : x < 512) : S2048x512.Idx := ix2 (⟨y, hy⟩ : Fin 2048) (⟨x, hx⟩ : Fin 512)

/-- The result block at a row of query block `i` and a column of head `h`. -/
theorem canon_outs (arg6 : Memref sig .tc .vmem S3x2048x256 .f32) (w : ℕ) (hw : w ≤ 32) (u : ℕ) (hu : u < w) (r d : ℕ) (hr : r < 256) (hd : d < 128) :
    View.canon (outs q k v arg6 w hw) (at2 (256 * (u % 8) + r) (128 * (u / 8) + d) (by omega) (by omega))
      = blockOf q k v arg6 u (by omega) (ix2 (⟨r, hr⟩ : Fin 256) (⟨d, hd⟩ : Fin 128)) := by
  induction w with
  | zero => omega
  | succ w ih =>
    rcases Nat.lt_or_ge u w with h | h
    · refine (View.canon_cons_of_not_mem _ _ fun hm => ?_).trans (ih (by omega) h)
      have hm := (LoadRect.mem_set _).mp hm
      obtain ⟨j0, hj0, e0⟩ := hm 0
      obtain ⟨j1, hj1, e1⟩ := hm 1
      change j0 < 256 at hj0
      change 256 * (u % 8) + r = 256 * (w % 8) + 1 * j0 at e0
      change j1 < 128 at hj1
      change 128 * (u / 8) + d = 128 * (w / 8) + 1 * j1 at e1
      omega
    · obtain rfl : u = w := by omega
      have key : at2 (256 * (u % 8) + r) (128 * (u / 8) + d) (by omega) (by omega)
          = (Rect.unit (s := S2048x512) ![256 * (u % 8), 128 * (u / 8)] (Mat 256 128).size (inbOut _ _ (by omega) (by omega))).emb
              (ix2 (⟨r, hr⟩ : Fin 256) (⟨d, hd⟩ : Fin 128)) := by
        funext a
        apply Fin.ext
        match a with
        | ⟨0, _⟩ => show 256 * (u % 8) + r = 256 * (u % 8) + 1 * r; omega
        | ⟨1, _⟩ => show 128 * (u / 8) + d = 128 * (u / 8) + 1 * d; omega
      rw [key]
      exact View.canon_cons_emb _ _ _ _

end Cert.Attn
-- ==== Proof.UnitVal.lean ====
/-
  A UNIT READ AT AN INDEX, over the extended reals: the scores, the selection, the tiles, the running maximum and the block of the
  result, entry by entry.
-/
module

public import proofs.«01_k».proof.Proof.Readback
public import proofs.«01_k».proof.Proof.Spec
public import Idealize.ShloMosaic.Lib.Pointwise
public import Idealize.ShloMosaic.Lib.IdealHost
public import Idealize.ShloMosaic.Lib.WordCmp

@[expose] public section

set_option maxRecDepth 16384

noncomputable section

namespace Cert.Attn

open Idealize.ShloMosaic
open scoped BigOperators

/-- A product with the right operand transposed, at an index. -/
theorem matmulT_apply {M K N : ℕ} {φ₁ φ₂ : FTy} (lhs : FVec Ideal (Mat M K) φ₁) (rhs : FVec Ideal (Mat N K) φ₂) (r : Fin M) (c : Fin N) :
    FloatOps.matmul (DotDims.transposedRhs M K N) none lhs rhs (constant (Mat M N) .f32 0x00000000#32) (ix2 r c)
      = ∑ d : Fin K, lhs (ix2 r d) * rhs (ix2 c d) := by
  rw [ix2_eq_valueIdx]
  refine (Ideal.matmul_transposedRhs_apply none lhs rhs _ r c).trans ?_
  rw [show (constant (Mat M N) .f32 0x00000000#32 : FVec Ideal (Mat M N) .f32) (ValueIdx.ix2 r c) = 0 from Ideal.ofBits_zero_f32, zero_add]
  simp only [ix2_eq_valueIdx]

/-- A plain product at an index. -/
theorem matmulP_apply {M K N : ℕ} {φ₁ φ₂ : FTy} (lhs : FVec Ideal (Mat M K) φ₁) (rhs : FVec Ideal (Mat K N) φ₂) (r : Fin M) (c : Fin N) :
    FloatOps.matmul (DotDims.plain M K N) none lhs rhs (constant (Mat M N) .f32 0x00000000#32) (ix2 r c)
      = ∑ d : Fin K, lhs (ix2 r d) * rhs (ix2 d c) := by
  rw [ix2_eq_valueIdx]
  refine (Ideal.matmul_plain_apply none lhs rhs _ r c).trans ?_
  rw [show (constant (Mat M N) .f32 0x00000000#32 : FVec Ideal (Mat M N) .f32) (ValueIdx.ix2 r c) = 0 from Ideal.ofBits_zero_f32, zero_add]
  simp only [ix2_eq_valueIdx]

theorem negInf_eq : (negInf : Ideal .f32) = ⊥ := by
  simp [negInf, Scalar.ofBits, Ideal.ofBits, Ideal.ieee]

/-- The block of the result: numerator over denominator. -/
theorem outBlock_apply (i : ℕ) (vs : FVec Ideal (Mat 144 (256 * (i + 1))) .bf16) (mx : FVec Ideal (Mat 1 256) .f32)
    (s : FVec Ideal (Mat (256 * (i + 1)) 256) .f32) (r : Fin 256) (d : Fin 128) :
    outBlock i vs mx s (ix2 r d)
      = (∑ κ : Fin (256 * (i + 1)), vs (ix2 (⟨d.val, by omega⟩ : Fin 144) κ) * Ideal.exp2 (s (ix2 κ r) - mx (ix2 (0 : Fin 1) r)))
        * Ideal.div 1 (∑ κ : Fin (256 * (i + 1)), vs (ix2 (128 : Fin 144) κ) * Ideal.exp2 (s (ix2 κ r) - mx (ix2 (0 : Fin 1) r))) := by
  unfold outBlock
  generalize hE : (truncf .bf16 (exp2 (subf s (broadcastTo _ mx (spreads _ 256)))) (by decide) : FVec Ideal (Mat (256 * (i + 1)) 256) .bf16) = E
  have hEa : ∀ κ, E (ix2 κ r) = Ideal.exp2 (s (ix2 κ r) - mx (ix2 (0 : Fin 1) r)) := fun κ => by
    rw [← hE]
    pointwise
    rfl
  simp only [← hEa]
  rw [← matmulP_apply vs E, ← matmulP_apply vs E]
  pointwise

/-- The gate of a query against a block's mean. -/
theorem gate_apply (q k : FVec Ideal (Mat 2048 128) .bf16) (n : Fin 8) (s : Fin 2048) :
    gate q k (ix2 n s) = ∑ d : Fin 128,
      Ideal.div (∑ x : Fin 256, k (ix2 (⟨n.val * 256 + x.val, by omega⟩ : Fin 2048) d)) (Ideal.ofBits .f32 0x43800000#32) * q (ix2 s d) := by
  unfold gate
  pointwise

/-- The masked gate. -/
theorem gatePast_apply (i : ℕ) (hi : i < 8) (g : FVec Ideal (Mat 8 2048) .f32) (n : Fin 8) (c : Fin 256) :
    gatePast i hi g (ix2 n c) = if n.val < i then g (ix2 n (⟨256 * i + c.val, by omega⟩ : Fin 2048)) else ⊥ := by
  unfold gatePast rowNo
  rw [negInf_eq]
  pointwise
  rw [WordCmp.cmpi_slt_ofNat (by omega) (by omega), WordCmp.select_decide]

theorem before_apply (o : ℕ) (ho : o < 8) (gm : FVec Ideal (Mat 8 256) .f32) (n : Fin 8) (c : Fin 256) :
    before o ho gm (ix2 n c) = BitVec.ofBool (decide (gm (ix2 n c) < gm (ix2 (⟨o, ho⟩ : Fin 8) c)
      ∨ (gm (ix2 (⟨o, ho⟩ : Fin 8) c) = gm (ix2 n c) ∧ o < n.val))) := by
  unfold before rowNo
  pointwise
  rw [WordCmp.cmpi_sgt_ofNat (by omega) (by omega), WordCmp.andi_ofBool, WordCmp.ori_ofBool]
  congr 1
  simp [Bool.decide_or, Bool.decide_and]

theorem ownTile_apply (i : ℕ) (st : FVec Ideal (Mat (256 * (i + 1)) 256) .f32) (r c : Fin 256) :
    ownTile i st (ix2 r c) = if r.val ≤ c.val then rawTile i i le_rfl st (ix2 r c) else ⊥ := by
  unfold ownTile
  rw [negInf_eq]
  pointwise
  rw [WordCmp.cmpi_sle_ofNat (by omega) (by omega), WordCmp.select_decide]

theorem logits_apply (i : ℕ) (hi : i < 8) (q : FVec Ideal (Mat 2048 128) .bf16) (ks : FVec Ideal (Mat (256 * (i + 1)) 128) .bf16)
    (κ : Fin (256 * (i + 1))) (c : Fin 256) :
    logits i hi q ks (ix2 κ c) = ∑ d : Fin 128, ks (ix2 κ d) * q (ix2 (⟨256 * i + c.val, by omega⟩ : Fin 2048) d) := by
  unfold logits
  rw [matmulT_apply]
  pointwise

theorem rawTile_apply (i n : ℕ) (hn : n ≤ i) (st : FVec Ideal (Mat (256 * (i + 1)) 256) .f32) (r c : Fin 256) :
    rawTile i n hn st (ix2 r c) = st (ix2 (⟨256 * n + r.val, by omega⟩ : Fin (256 * (i + 1))) c) := by
  unfold rawTile
  split
  · next h =>
    subst h
    obtain rfl : n = 0 := by omega
    show st _ = _
    congr 1
    refine congrArg (fun x => ix2 x c) (Fin.ext ?_)
    show r.val = 256 * 0 + r.val
    omega
  · unfold extractStridedSlice
    congr 1
    funext a
    match a with
    | ⟨0, _⟩ => rfl
    | ⟨1, _⟩ => exact Fin.ext (Nat.zero_add c.val)

theorem selTile_apply (i n : ℕ) (hn : n ≤ i) (hi : i < 8) (st : FVec Ideal (Mat (256 * (i + 1)) 256) .f32) (b : FVec Ideal (Mat 8 256) .f32) (r c : Fin 256) :
    selTile i n hn hi st b (ix2 r c)
      = st (ix2 (⟨256 * n + r.val, by omega⟩ : Fin (256 * (i + 1))) c) + b (ix2 (⟨n, by omega⟩ : Fin 8) c) := by
  unfold selTile
  rw [← rawTile_apply i n hn st r c]
  pointwise

theorem colMax_apply (t : FVec Ideal (Mat 256 256) .f32) (c : Fin 256) :
    colMax t (ix2 (0 : Fin 1) c) = Finset.univ.fold max ⊥ fun r : Fin 256 => t (ix2 r c) := by
  unfold colMax
  have h : Ideal.ofBits .f32 0xFF800000#32 = (⊥ : EReal) := negInf_eq
  rw [← h]
  pointwise

theorem vOnes_val (v : FVec Ideal (Mat 2048 128) .bf16) (d : Fin 128) (s : Fin 2048) :
    vOnes v (ix2 (⟨d.val, by omega⟩ : Fin 144) s) = v (ix2 s d) := by
  unfold vOnes
  pointwise

theorem vOnes_one (v : FVec Ideal (Mat 2048 128) .bf16) (s : Fin 2048) :
    vOnes v (ix2 (128 : Fin 144) s) = 1 := by
  unfold vOnes
  pointwise
  show (((BitVec.setWidth 32 1#1).toInt : ℝ) : EReal) = 1
  rw [show (BitVec.setWidth 32 1#1).toInt = 1 by decide]
  simp

theorem keysTo_apply (i : ℕ) (hi : i < 8) (k : FVec Ideal (Mat 2048 128) .bf16) (κ : Fin (256 * (i + 1))) (d : Fin 128) :
    keysTo i hi k (ix2 κ d) = k (ix2 (⟨κ.val, by omega⟩ : Fin 2048) d) := by
  unfold keysTo
  split
  · next h => subst h; rfl
  · pointwise

theorem valsTo_apply (i : ℕ) (hi : i < 8) (v : FVec Ideal (Mat 144 2048) .bf16) (d : Fin 144) (κ : Fin (256 * (i + 1))) :
    valsTo i hi v (ix2 d κ) = v (ix2 d (⟨κ.val, by omega⟩ : Fin 2048)) := by
  unfold valsTo
  split
  · next h => subst h; rfl
  · pointwise

/-- The rank as a word is the number of blocks ahead. -/
theorem rank_apply (gm : FVec Ideal (Mat 8 256) .f32) (m : ℕ) (hm : m ≤ 8) (n : Fin 8) (c : Fin 256) :
    rank gm m hm (ix2 n c) = BitVec.ofNat 32 (ahead (fun o => gm (ix2 o c)) m n) := by
  classical
  induction m with
  | zero => rw [ahead_zero]; rfl
  | succ m ih =>
    show IntOp.addi (rank gm m (by omega) (ix2 n c)) (BitVec.setWidth 32 (before m (by omega) gm (ix2 n c))) = _
    rw [ih (by omega), before_apply, ahead_succ _ m (by omega)]
    by_cases hA : Ahead (fun o => gm (ix2 o c)) ⟨m, by omega⟩ n
    · rw [if_pos hA, ← WordCmp.addi_ofNat]
      congr 1
      refine congrArg (fun b => BitVec.setWidth 32 (BitVec.ofBool b)) (?_ : _ = true)
      exact decide_eq_true hA
    · rw [if_neg hA, ← WordCmp.addi_ofNat]
      congr 1
      refine congrArg (fun b => BitVec.setWidth 32 (BitVec.ofBool b)) (?_ : _ = false)
      exact decide_eq_false hA

/-- The selection: 0 at a past block with fewer than three ahead, −∞ elsewhere. -/
theorem bias_apply (i : ℕ) (hi : i < 8) (g : FVec Ideal (Mat 8 2048) .f32) (n : Fin 8) (c : Fin 256) :
    bias i hi g (ix2 n c) = if n.val < i ∧ ahead (fun o => gatePast i hi g (ix2 o c)) i n < 3 then (0 : EReal) else ⊥ := by
  have h8 := ahead_le (fun o => gatePast i hi g (ix2 o c)) i n
  unfold bias rowNo
  rw [negInf_eq]
  pointwise
  rw [rank_apply, WordCmp.cmpi_slt_ofNat (by omega) (by omega), WordCmp.cmpi_slt_ofNat (by omega) (by omega),
    WordCmp.andi_ofBool, WordCmp.select_ofBool]
  simp only [Bool.and_eq_true, decide_eq_true_eq]

/-- The gates query `s` sees: −∞ at the blocks that are not past. -/
def seen (g : FVec Ideal (Mat 8 2048) .f32) (s : Fin 2048) (o : Fin 8) : EReal :=
  if o.val < s.val / 256 then g (ix2 o s) else ⊥

/-- A masked tile at an index: the score where the key is visible, −∞ elsewhere. -/
theorem tile_apply (i n : ℕ) (hn : n ≤ i) (hi : i < 8) (q k : FVec Ideal (Mat 2048 128) .bf16) (g : FVec Ideal (Mat 8 2048) .f32) (r c : Fin 256) :
    tile i n hn hi q (keysTo i hi k) g (ix2 r c)
      = (by classical exact if Visible (seen g ⟨256 * i + c.val, by omega⟩) ⟨256 * i + c.val, by omega⟩ ⟨256 * n + r.val, by omega⟩
        then ∑ d : Fin 128, k (ix2 (⟨256 * n + r.val, by omega⟩ : Fin 2048) d) * q (ix2 (⟨256 * i + c.val, by omega⟩ : Fin 2048) d) else ⊥) := by
  classical
  have hlog : ∀ hκ, logits i hi q (keysTo i hi k) (ix2 (⟨256 * n + r.val, hκ⟩ : Fin (256 * (i + 1))) c)
      = ∑ d : Fin 128, k (ix2 (⟨256 * n + r.val, by omega⟩ : Fin 2048) d) * q (ix2 (⟨256 * i + c.val, by omega⟩ : Fin 2048) d) := fun hκ => by
    rw [logits_apply]
    exact Finset.sum_congr rfl fun d _ => by rw [keysTo_apply]
  have hγ : (fun o => gatePast i hi g (ix2 o c)) = seen g ⟨256 * i + c.val, by omega⟩ := funext fun o => by
    rw [gatePast_apply]
    unfold seen
    rw [show (256 * i + c.val) / 256 = i by omega]
  have hdn : (256 * n + r.val) / 256 = n := by omega
  have hdi : (256 * i + c.val) / 256 = i := by omega
  unfold tile
  split
  · next h =>
    subst h
    rw [ownTile_apply, rawTile_apply, hlog]
    refine if_congr ((visible_own _ _ _ (hdn.trans hdi.symm)).trans ?_).symm rfl rfl
    show 256 * n + r.val ≤ 256 * n + c.val ↔ _
    omega
  · next h =>
    have hV : Visible (seen g ⟨256 * i + c.val, by omega⟩) ⟨256 * i + c.val, by omega⟩ ⟨256 * n + r.val, by omega⟩
        ↔ ahead (seen g ⟨256 * i + c.val, by omega⟩) i ⟨n, by omega⟩ < 3 := by
      refine (visible_past _ _ _ ?_).trans ?_
      · show (256 * n + r.val) / 256 < (256 * i + c.val) / 256
        omega
      · show ahead _ ((256 * i + c.val) / 256) ⟨(256 * n + r.val) / 256, _⟩ < 3 ↔ _
        simp only [hdn, hdi]
    split
    · next h3 =>
      rw [selTile_apply, hlog, bias_apply, hγ]
      by_cases hA : ahead (seen g ⟨256 * i + c.val, by omega⟩) i ⟨n, by omega⟩ < 3
      · rw [if_pos ⟨by show n < i; omega, hA⟩, if_pos (hV.2 hA), add_zero]
      · rw [if_neg (fun h => hA h.2), if_neg (fun h => hA (hV.1 h)), EReal.add_bot]
    · next h3 =>
      rw [rawTile_apply, hlog, if_pos]
      exact hV.2 (ahead_few _ _ (by omega) _ (by show n < i; omega))

/-- The running maximum is real once the scores are. -/
theorem runMax_real (i : ℕ) (hi : i < 8) (q k : FVec Ideal (Mat 2048 128) .bf16) (g : FVec Ideal (Mat 8 2048) .f32) (c : Fin 256)
    (hS : ∀ κ s : Fin 2048, ∃ x : ℝ, ∑ d : Fin 128, k (ix2 κ d) * q (ix2 s d) = (x : EReal)) :
    ∃ μ : ℝ, runMax i hi q (keysTo i hi k) g i le_rfl (ix2 (0 : Fin 1) c) = (μ : EReal) := by
  classical
  have htop : ∀ n (hn : n ≤ i), runMax i hi q (keysTo i hi k) g n hn (ix2 (0 : Fin 1) c) ≠ ⊤ := by
    have hcol : ∀ n (hn : n ≤ i), colMax (tile i n hn hi q (keysTo i hi k) g) (ix2 (0 : Fin 1) c) ≠ ⊤ := fun n hn => by
      rw [colMax_apply]
      refine fold_max_ne_top _ _ fun r _ => ?_
      rw [tile_apply]
      obtain ⟨x, hx⟩ := hS ⟨256 * n + r.val, by omega⟩ ⟨256 * i + c.val, by omega⟩
      split
      · rw [hx]; exact EReal.coe_ne_top x
      · exact bot_ne_top
    intro n
    induction n with
    | zero => exact fun hn => hcol 0 hn
    | succ n ih =>
      intro hn
      have := max_lt (lt_top_iff_ne_top.2 (ih (by omega))) (lt_top_iff_ne_top.2 (hcol (n + 1) hn))
      exact this.ne
  have hlast : ∀ n (hn : n ≤ i), colMax (tile i n hn hi q (keysTo i hi k) g) (ix2 (0 : Fin 1) c) ≠ ⊥ →
      runMax i hi q (keysTo i hi k) g n hn (ix2 (0 : Fin 1) c) ≠ ⊥ := by
    intro n hn h
    cases n with
    | zero => exact h
    | succ n => exact (lt_of_lt_of_le (bot_lt_iff_ne_bot.2 h) (le_max_right _ _)).ne'
  have hbot : runMax i hi q (keysTo i hi k) g i le_rfl (ix2 (0 : Fin 1) c) ≠ ⊥ := by
    have hcol : colMax (tile i i le_rfl hi q (keysTo i hi k) g) (ix2 (0 : Fin 1) c) ≠ ⊥ := by
      rw [colMax_apply]
      refine fold_max_ne_bot _ _ c (Finset.mem_univ c) ?_
      rw [tile_apply]
      obtain ⟨x, hx⟩ := hS ⟨256 * i + c.val, by omega⟩ ⟨256 * i + c.val, by omega⟩
      rw [if_pos ((visible_own _ _ _ rfl).2 le_rfl), hx]
      exact EReal.coe_ne_bot x
    exact hlast i le_rfl hcol
  exact ⟨_, (EReal.coe_toReal (htop i le_rfl) hbot).symm⟩

end Cert.Attn
-- ==== Proof.Block.lean ====
/-
  WHAT A UNIT'S BLOCK HOLDS. The queries come scaled by `ρ/log 2`, so the scores are `ρ ⟨q, k⟩ / log 2` and the powers of two are the
  exponentials of `ρ ⟨q, k⟩`: the block is the softmax average of the values over the visible keys.
-/
module

public import proofs.«01_k».proof.Proof.UnitVal

@[expose] public section

set_option maxRecDepth 16384

noncomputable section

namespace Cert.Attn

open Idealize.ShloMosaic
open Cert.KernelIdeal Cert.KernelIdeal.Gen
open scoped BigOperators

/-- The scaled score of query `s` against key `κ`. -/
def score (ρ : ℝ) (Q K : Fin 2048 → Fin 128 → ℝ) (s κ : Fin 2048) : ℝ := (∑ d, Q s d * K κ d) * ρ

/-- The gate of query `s` against the mean key of block `o`. -/
def gateOf (Q K : Fin 2048 → Fin 128 → ℝ) (s : Fin 2048) (o : Fin 8) : ℝ :=
  ∑ d, Q s d * ((∑ x : Fin 256, K ⟨o.val * 256 + x.val, by omega⟩ d) / 256)

/-- The gates query `s` sees: −∞ at the blocks that are not past. -/
def gates (Q K : Fin 2048 → Fin 128 → ℝ) (s : Fin 2048) (o : Fin 8) : EReal := if o.val < s.val / 256 then ((gateOf Q K s o : ℝ) : EReal) else ⊥

/-- The attention at query `s`: the softmax average of the values over the visible keys. -/
def attend (ρ : ℝ) (Q K : Fin 2048 → Fin 128 → ℝ) (v : Fin 2048 → EReal) (s : Fin 2048) : EReal :=
  average (Visible (gates Q K s) s) (score ρ Q K s) v

theorem w256 : Ideal.ofBits .f32 0x43800000#32 = ((256 : ℝ) : EReal) := by
  simp [Ideal.ofBits, Ideal.ieee]
  rw [← EReal.coe_mul]
  norm_num

/-- A positive factor on every gate changes no order. -/
theorem ahead_scale (G : Fin 8 → ℝ) (P : Fin 8 → Prop) [DecidablePred P] (a : ℝ) (ha : 0 < a) (m : ℕ) (n : Fin 8) :
    ahead (fun o => if P o then ((G o * a : ℝ) : EReal) else ⊥) m n = ahead (fun o => if P o then ((G o : ℝ) : EReal) else ⊥) m n := by
  classical
  unfold ahead
  congr 1
  refine Finset.filter_congr fun o _ => and_congr_right fun _ => ?_
  unfold Ahead
  by_cases ho : P o <;> by_cases hn : P n <;> simp only [ho, hn, if_true, if_false, EReal.coe_lt_coe_iff, EReal.coe_eq_coe_iff,
    EReal.bot_lt_coe, not_lt_bot, EReal.coe_ne_bot, EReal.bot_ne_coe]
  · rw [mul_lt_mul_iff_left₀ ha, mul_left_inj' ha.ne']

theorem visible_congr {γ γ' : Fin 8 → EReal} (s κ : Fin 2048) (h : ∀ m n, ahead γ m n = ahead γ' m n) : Visible γ s κ ↔ Visible γ' s κ := by
  unfold Visible
  rw [h]

section

variable (ρ : ℝ) (hρ : 0 < ρ) (Q K : Fin 2048 → Fin 128 → ℝ) (q k : FVec Ideal (Mat 2048 128) .bf16)
  (hq : ∀ s d, q (ix2 s d) = ((Q s d * (ρ / Real.log 2) : ℝ) : EReal)) (hk : ∀ s d, k (ix2 s d) = ((K s d : ℝ) : EReal))

include hq hk in
theorem score_real (s κ : Fin 2048) : ∑ d : Fin 128, k (ix2 κ d) * q (ix2 s d) = ((score ρ Q K s κ / Real.log 2 : ℝ) : EReal) := by
  have h : ∀ d, k (ix2 κ d) * q (ix2 s d) = ((K κ d * (Q s d * (ρ / Real.log 2)) : ℝ) : EReal) := fun d => by
    rw [hq, hk]
    exact (EReal.coe_mul _ _).symm
  simp only [h]
  rw [← coe_sum]
  congr 1
  unfold score
  rw [Finset.sum_mul, Finset.sum_div]
  exact Finset.sum_congr rfl fun d _ => by ring

include hq hk in
theorem gate_real (s : Fin 2048) (o : Fin 8) : gate q k (ix2 o s) = ((gateOf Q K s o * (ρ / Real.log 2) : ℝ) : EReal) := by
  rw [gate_apply, w256]
  have h : ∀ d, Ideal.div (∑ x : Fin 256, k (ix2 (⟨o.val * 256 + x.val, by omega⟩ : Fin 2048) d)) ((256 : ℝ) : EReal) * q (ix2 s d)
      = ((((∑ x : Fin 256, K ⟨o.val * 256 + x.val, by omega⟩ d) / 256) * (Q s d * (ρ / Real.log 2)) : ℝ) : EReal) := fun d => by
    simp only [hk]
    rw [hq, ← coe_sum, div_coe _ _ (by norm_num)]
    exact (EReal.coe_mul _ _).symm
  simp only [h]
  rw [← coe_sum]
  congr 1
  unfold gateOf
  rw [Finset.sum_mul]
  exact Finset.sum_congr rfl fun d _ => by ring

include hρ hq hk in
theorem visible_real (s κ : Fin 2048) : Visible (seen (gate q k) s) s κ ↔ Visible (gates Q K s) s κ := by
  refine visible_congr s κ fun m n => ?_
  have hs : seen (gate q k) s = fun o => if o.val < s.val / 256 then ((gateOf Q K s o * (ρ / Real.log 2) : ℝ) : EReal) else ⊥ := funext fun o => by
    unfold seen
    rw [gate_real ρ Q K q k hq hk]
  rw [hs]
  exact ahead_scale (gateOf Q K s) (fun o => o.val < s.val / 256) _ (div_pos hρ (Real.log_pos one_lt_two)) m n

end

/-- The block of unit `u` is the attention of its head at its queries. -/
theorem blockOf_value (ρ : ℝ) (hρ : 0 < ρ) (Q K : Fin 2048 → Fin 128 → ℝ) (q k v : (h : ℕ) → h < 4 → FVec Ideal (Mat 2048 128) .bf16)
    (arg6 : Memref sig .tc .vmem S3x2048x256 .f32) (u : ℕ) (hu : u < 32)
    (hq : ∀ s d, q (u / 8) (by omega) (ix2 s d) = ((Q s d * (ρ / Real.log 2) : ℝ) : EReal))
    (hk : ∀ s d, k (u / 8) (by omega) (ix2 s d) = ((K s d : ℝ) : EReal)) (r : Fin 256) (d : Fin 128) :
    blockOf q k v arg6 u hu (ix2 r d)
      = attend ρ Q K (fun κ => v (u / 8) (by omega) (ix2 κ d)) ⟨256 * (u % 8) + r.val, by omega⟩ := by
  classical
  have hi : u % 8 < 8 := by omega
  obtain ⟨μ, hμ⟩ := runMax_real (u % 8) hi (q (u / 8) (by omega)) (k (u / 8) (by omega)) (gate (q (u / 8) (by omega)) (k (u / 8) (by omega))) r
    fun κ s => ⟨_, score_real ρ Q K _ _ hq hk s κ⟩
  have hS : ∀ κ : Fin (256 * (u % 8 + 1)), scoresOf q k arg6 u hu (ix2 κ r)
      = if Visible (gates Q K ⟨256 * (u % 8) + r.val, by omega⟩) ⟨256 * (u % 8) + r.val, by omega⟩ ⟨κ.val, by omega⟩
        then ((score ρ Q K ⟨256 * (u % 8) + r.val, by omega⟩ ⟨κ.val, by omega⟩ / Real.log 2 : ℝ) : EReal) else ⊥ := fun κ => by
    have hκ : ∀ h, κ = (⟨256 * (κ.val / 256) + κ.val % 256, h⟩ : Fin (256 * (u % 8 + 1))) := fun h => Fin.ext (by show κ.val = 256 * (κ.val / 256) + κ.val % 256; omega)
    have hκ' : ∀ h, (⟨256 * (κ.val / 256) + κ.val % 256, h⟩ : Fin 2048) = ⟨κ.val, by omega⟩ := fun h => Fin.ext (by show 256 * (κ.val / 256) + κ.val % 256 = κ.val; omega)
    refine (congrArg (fun x => scoresOf q k arg6 u hu (ix2 x r)) (hκ (by omega))).trans ?_
    refine (scoresOf_apply q k arg6 u hu (κ.val / 256) (by omega) (κ.val % 256) r.val (by omega) r.isLt).trans ?_
    refine (tile_apply (u % 8) (κ.val / 256) (by omega) hi (q (u / 8) (by omega)) (k (u / 8) (by omega))
      (gate (q (u / 8) (by omega)) (k (u / 8) (by omega))) ⟨κ.val % 256, by omega⟩ r).trans ?_
    rw [hκ']
    refine if_congr (visible_real ρ hρ Q K _ _ hq hk _ _) ?_ rfl
    exact score_real ρ Q K _ _ hq hk _ _
  unfold blockOf
  rw [outBlock_apply]
  have hv : ∀ κ : Fin (256 * (u % 8 + 1)), valsTo (u % 8) hi (vOnes (v (u / 8) (by omega))) (ix2 (⟨d.val, by omega⟩ : Fin 144) κ)
      = v (u / 8) (by omega) (ix2 (⟨κ.val, by omega⟩ : Fin 2048) d) := fun κ => by
    rw [valsTo_apply, vOnes_val]
  have ho : ∀ κ : Fin (256 * (u % 8 + 1)), valsTo (u % 8) hi (vOnes (v (u / 8) (by omega))) (ix2 (128 : Fin 144) κ) = 1 := fun κ => by
    rw [valsTo_apply, vOnes_one]
  have hm : maxOf q k u hu (ix2 (0 : Fin 1) r) = (μ : EReal) := hμ
  simp only [hv, ho, hm]
  have hself : 256 * (u % 8) + r.val < 256 * (u % 8 + 1) := by omega
  refine (exp2_average (fun κ : Fin (256 * (u % 8 + 1)) =>
      Visible (gates Q K ⟨256 * (u % 8) + r.val, by omega⟩) ⟨256 * (u % 8) + r.val, by omega⟩ ⟨κ.val, by omega⟩)
    (fun κ => score ρ Q K ⟨256 * (u % 8) + r.val, by omega⟩ ⟨κ.val, by omega⟩) _ _ μ hS ⟨_, hself⟩ (visible_self _ _)).trans ?_
  refine average_reindex _ (Visible (gates Q K ⟨256 * (u % 8) + r.val, by omega⟩) ⟨256 * (u % 8) + r.val, by omega⟩)
    (score ρ Q K ⟨256 * (u % 8) + r.val, by omega⟩) (fun κ => v (u / 8) (by omega) (ix2 κ d))
    (fun κ : Fin (256 * (u % 8 + 1)) => (⟨κ.val, by omega⟩ : Fin 2048)) (fun a b _ _ h => ?_) (fun a h => h) fun b hb => ?_
  · exact Fin.ext (Fin.mk.inj_iff.1 h)
  · rcases Nat.lt_or_ge b.val (256 * (u % 8 + 1)) with h | h
    · exact ⟨⟨b.val, h⟩, hb, rfl⟩
    · refine absurd hb (not_visible_later _ _ _ ?_)
      show (256 * (u % 8) + r.val) / 256 < b.val / 256
      omega

end Cert.Attn
-- ==== Proof.RefGate.lean ====
module

public import proofs.«01_k».proof.Proof.RefIndex
public import proofs.«01_k».proof.Proof.RefTop
public import proofs.«01_k».proof.Proof.Block

@[expose] public section

set_option maxRecDepth 16384

noncomputable section

/-! The reference's gates and the key blocks they select. -/

namespace Cert.Attn

open Cert.ReferenceIdeal Cert.ReferenceIdeal.Gen Cert.ReferenceIdeal.Read Idealize.ShloMosaic Idealize.ShloMosaic.TcCoe Idealize.SL.Sem
open scoped BigOperators

/-- One head's queries or keys as reals. -/
def headReal (x : FVec Ideal S8x2048x2048 .f32) (b : Fin 8) (h : Fin 16) (s : Fin 2048) (d : Fin 128) : ℝ :=
  (x (ix3 b s (⟨128 * h.val + d.val, by omega⟩ : Fin 2048))).toReal

theorem headReal_eq (x : FVec Ideal S8x2048x2048 .f32) (hx : ∀ j, ∃ r : ℝ, x j = (r : EReal)) (b : Fin 8) (h : Fin 16) (s : Fin 2048) (d : Fin 128) :
    x (ix3 b s (⟨128 * h.val + d.val, by omega⟩ : Fin 2048)) = (headReal x b h s d : EReal) := by
  obtain ⟨r, hr⟩ := hx (ix3 b s (⟨128 * h.val + d.val, by omega⟩ : Fin 2048))
  unfold headReal
  rw [hr]
  rfl

theorem negInf_word : Ideal.ofBits .f32 0xFF800000#32 = (⊥ : EReal) := by
  simp [Ideal.ofBits, Ideal.ieee]

variable (x0 x1 x2 : FVec Ideal S8x2048x2048 .f32)
variable (h0 : ∀ j, ∃ r : ℝ, x0 j = (r : EReal)) (h1 : ∀ j, ∃ r : ℝ, x1 j = (r : EReal))

include h1 in
/-- The mean key of a block. -/
theorem ref_mean (b : Fin 8) (h : Fin 16) (n : Fin 8) (d : Fin 128) :
    val_main_v10 (F := Ideal) x1 (ix4 b h n d)
      = (((∑ x : Fin 256, headReal x1 b h ⟨n.val * 256 + x.val, by omega⟩ d) / 256 : ℝ) : EReal) := by
  have e : ∀ x : Fin 256, val_main_v6 (F := Ideal) x1 (ix5 b h n x d) = (headReal x1 b h ⟨n.val * 256 + x.val, by omega⟩ d : EReal) := by
    intro x
    rw [ref_k, headReal_eq x1 h1]
  unfold val_main_v10 val_main_v8 val_main_v9
  pointwise
  simp only [e]
  rw [← coe_sum]
  have hz : val_main_cst (F := Ideal) (Shape.Idx.first h_S_) = 0 := by
    show Ideal.ofBits .f32 0x00000000#32 = 0
    simp [Ideal.ofBits, Ideal.ieee]
  have hw : val_main_cst_0 (F := Ideal) ix0 = ((256 : ℝ) : EReal) := w256
  rw [hz, hw, zero_add]
  exact div_coe _ _ (by norm_num)

include h0 h1 in
theorem ref_gate (b : Fin 8) (h : Fin 16) (s : Fin 2048) (n : Fin 8) :
    val_main_v20 (F := Ideal) x0 x1 (ix4 b h s n) = gates (headReal x0 b h) (headReal x1 b h) s n := by
  unfold val_main_v20 val_main_call1_v1 val_main_call1_v2 val_main_call1_v0 val_main_cst_1 val_main_v19 val_main_v17 val_main_v18 val_main_v15 val_main_v16 val_main_v14 val_main_v13
  pointwise
  simp only [ref_mean x1 h1, ref_q, headReal_eq x0 h0, ref_id]
  rw [WordCmp.cmpi_slt_ofNat (by omega) (by omega), WordCmp.select_decide]
  unfold gates gateOf
  have hw : id (constant (F := Ideal) S_ .f32 0xFF800000#32) ix0 = (⊥ : EReal) := negInf_word
  by_cases hn : n.val < s.val / 256
  · rw [if_pos hn, if_pos hn, coe_sum]
    exact Finset.sum_congr rfl fun d _ => (EReal.coe_mul _ _).symm
  · rw [if_neg hn, if_neg hn]
    exact hw

/-- The numbers of the selected blocks. -/
theorem ref_indices (b : Fin 8) (h : Fin 16) (s : Fin 2048) (r : Fin 3) :
    val_main_indices (F := Ideal) x0 x1 (ix4 b h s r)
      = BitVec.ofNat 32 (placed (fun n => val_main_v20 (F := Ideal) x0 x1 (ix4 b h s n)) (r.castLE (by omega))).val := by
  have hb : (fun k k' : Fin 8 => FloatOps.cmpfTotal (F := Ideal) (φ := .f32) .gt (val_main_v20 (F := Ideal) x0 x1 (ix4 b h s k)) (val_main_v20 (F := Ideal) x0 x1 (ix4 b h s k')) == 1#1)
      = fun k k' => decide (val_main_v20 (F := Ideal) x0 x1 (ix4 b h s k') < val_main_v20 (F := Ideal) x0 x1 (ix4 b h s k)) := by
    funext k k'
    show (BitVec.ofBool (decide (val_main_v20 (F := Ideal) x0 x1 (ix4 b h s k') < val_main_v20 (F := Ideal) x0 x1 (ix4 b h s k))) == 1#1) = _
    cases decide (val_main_v20 (F := Ideal) x0 x1 (ix4 b h s k') < val_main_v20 (F := Ideal) x0 x1 (ix4 b h s k)) <;> rfl
  unfold placed
  rw [← hb]
  unfold val_main_indices
  generalize val_main_v20 (F := Ideal) x0 x1 = y
  have ha : ∀ (j : S8x16x2048x8.Idx) (k : Fin 8), j 0 = b → j 1 = h → j 2 = s → j.along (3 : Fin 4) k = ix4 b h s k := by
    intro j k e0 e1 e2
    funext a
    match a with
    | ⟨0, _⟩ => exact e0
    | ⟨1, _⟩ => exact e1
    | ⟨2, _⟩ => exact e2
    | ⟨3, _⟩ => rfl
  have hs : ∀ f : S8x16x2048x8.Idx → BitVec 32, extractStridedSlice S8x16x2048x3 (fun _ => 0) f sliceFits_S8x16x2048x8_S8x16x2048x3 (ix4 b h s r)
      = f (ix4 b h s (r.castLE (by omega))) := by
    intro f
    refine congrArg f (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _
  unfold Host.topK Host.sort2
  simp only
  rw [dif_pos (by decide), hs]
  have hk : ∀ k : Fin 8, Shape.Idx.along (ix4 b h s (r.castLE (by omega)) : S8x16x2048x8.Idx) (3 : Fin 4) k = ix4 b h s k :=
    fun k => ha _ k rfl rfl rfl
  have hf : (fun k k' : Fin 8 => FloatOps.cmpfTotal (F := Ideal) (φ := .f32) .gt (y (Shape.Idx.along (ix4 b h s (r.castLE (by omega)) : S8x16x2048x8.Idx) (3 : Fin 4) k))
        (y (Shape.Idx.along (ix4 b h s (r.castLE (by omega)) : S8x16x2048x8.Idx) (3 : Fin 4) k')) == 1#1)
      = fun k k' => FloatOps.cmpfTotal (F := Ideal) (φ := .f32) .gt (y (ix4 b h s k)) (y (ix4 b h s k')) == 1#1 := by
    funext k k'
    rw [hk, hk]
  rw [← hf]
  rfl

/-- A block number is not negative: it is not moved by eight. -/
theorem keep_word {N : ℕ} (n : Fin N) (hN : N ≤ 65536) (w : BitVec 32) :
    Scalar.select (IntOp.cmpi CmpIPredicate.slt (BitVec.ofNat 32 n.val) 0#32) w (BitVec.ofNat 32 n.val) = BitVec.ofNat 32 n.val := by
  rw [show (0#32 : BitVec 32) = BitVec.ofNat 32 0 from rfl, WordCmp.cmpi_slt_ofNat (by omega) (by omega), WordCmp.select_decide, if_neg (by omega)]

/-- The gates of a query, as the reference holds them. -/
def gatesAt (b : Fin 8) (h : Fin 16) (s : Fin 2048) (n : Fin 8) : EReal := val_main_v20 (F := Ideal) x0 x1 (ix4 b h s n)

/-- The block a query's `r`-th selection takes. -/
def chosen (b : Fin 8) (h : Fin 16) (s : Fin 2048) (r : Fin 3) : Fin 8 := placed (gatesAt x0 x1 b h s) (r.castLE (by omega))

theorem ref_chosen (b : Fin 8) (h : Fin 16) (s : Fin 2048) (r : Fin 3) :
    val_main_indices (F := Ideal) x0 x1 (ix4 b h s r) = BitVec.ofNat 32 (chosen x0 x1 b h s r).val := ref_indices x0 x1 b h s r

theorem keys_batch (b : Fin 8) (h : Fin 16) (s : Fin 2048) (r : Fin 3) :
    val_main_v76 (F := Ideal) x0 x1 (ix5 b h s r 0) = BitVec.ofNat 32 b.val := by
  unfold val_main_v76 val_main_v73 val_main_v74 val_main_v75 val_main_v71 val_main_v72 val_main_v70 val_main_v60 val_main_v65 val_main_v67 val_main_v69 val_main_v66 val_main_v68 val_main_v57 val_main_v59 val_main_v62 val_main_v64 val_main_v28 val_main_v27 val_main_v30 val_main_v29 val_main_v56 val_main_v58 val_main_v61 val_main_v63 val_main_c_7 val_main_c_8 val_main_c_9 val_main_c_10 val_main_c_11 val_main_c_12
  pointwise
  exact keep_word b (by omega) _

theorem keys_head (b : Fin 8) (h : Fin 16) (s : Fin 2048) (r : Fin 3) :
    val_main_v76 (F := Ideal) x0 x1 (ix5 b h s r 1) = BitVec.ofNat 32 h.val := by
  unfold val_main_v76 val_main_v73 val_main_v74 val_main_v75 val_main_v71 val_main_v72 val_main_v70 val_main_v60 val_main_v65 val_main_v67 val_main_v69 val_main_v66 val_main_v68 val_main_v57 val_main_v59 val_main_v62 val_main_v64 val_main_v28 val_main_v27 val_main_v30 val_main_v29 val_main_v56 val_main_v58 val_main_v61 val_main_v63 val_main_c_7 val_main_c_8 val_main_c_9 val_main_c_10 val_main_c_11 val_main_c_12
  pointwise
  exact keep_word h (by omega) _

theorem keys_block (b : Fin 8) (h : Fin 16) (s : Fin 2048) (r : Fin 3) :
    val_main_v76 (F := Ideal) x0 x1 (ix5 b h s r 2) = BitVec.ofNat 32 (chosen x0 x1 b h s r).val := by
  unfold val_main_v76 val_main_v73 val_main_v74 val_main_v75 val_main_v71 val_main_v72 val_main_v70 val_main_v60 val_main_v65 val_main_v67 val_main_v69 val_main_v66 val_main_v68 val_main_v57 val_main_v59 val_main_v62 val_main_v64 val_main_v28 val_main_v27 val_main_v30 val_main_v29 val_main_v56 val_main_v58 val_main_v61 val_main_v63 val_main_c_7 val_main_c_8 val_main_c_9 val_main_c_10 val_main_c_11 val_main_c_12
  pointwise
  rw [ref_chosen]
  exact keep_word (chosen x0 x1 b h s r) (by omega) _

theorem values_batch (b : Fin 8) (h : Fin 16) (s : Fin 2048) (r : Fin 3) :
    val_main_v98 (F := Ideal) x0 x1 (ix5 b h s r 0) = BitVec.ofNat 32 b.val := by
  unfold val_main_v98 val_main_v95 val_main_v96 val_main_v97 val_main_v93 val_main_v94 val_main_v92 val_main_v82 val_main_v87 val_main_v89 val_main_v91 val_main_v88 val_main_v90 val_main_v79 val_main_v81 val_main_v84 val_main_v86 val_main_v28 val_main_v27 val_main_v30 val_main_v29 val_main_v78 val_main_v80 val_main_v83 val_main_v85 val_main_c_13 val_main_c_14 val_main_c_15 val_main_c_16 val_main_c_17 val_main_c_18
  pointwise
  exact keep_word b (by omega) _

theorem values_head (b : Fin 8) (h : Fin 16) (s : Fin 2048) (r : Fin 3) :
    val_main_v98 (F := Ideal) x0 x1 (ix5 b h s r 1) = BitVec.ofNat 32 h.val := by
  unfold val_main_v98 val_main_v95 val_main_v96 val_main_v97 val_main_v93 val_main_v94 val_main_v92 val_main_v82 val_main_v87 val_main_v89 val_main_v91 val_main_v88 val_main_v90 val_main_v79 val_main_v81 val_main_v84 val_main_v86 val_main_v28 val_main_v27 val_main_v30 val_main_v29 val_main_v78 val_main_v80 val_main_v83 val_main_v85 val_main_c_13 val_main_c_14 val_main_c_15 val_main_c_16 val_main_c_17 val_main_c_18
  pointwise
  exact keep_word h (by omega) _

theorem values_block (b : Fin 8) (h : Fin 16) (s : Fin 2048) (r : Fin 3) :
    val_main_v98 (F := Ideal) x0 x1 (ix5 b h s r 2) = BitVec.ofNat 32 (chosen x0 x1 b h s r).val := by
  unfold val_main_v98 val_main_v95 val_main_v96 val_main_v97 val_main_v93 val_main_v94 val_main_v92 val_main_v82 val_main_v87 val_main_v89 val_main_v91 val_main_v88 val_main_v90 val_main_v79 val_main_v81 val_main_v84 val_main_v86 val_main_v28 val_main_v27 val_main_v30 val_main_v29 val_main_v78 val_main_v80 val_main_v83 val_main_v85 val_main_c_13 val_main_c_14 val_main_c_15 val_main_c_16 val_main_c_17 val_main_c_18
  pointwise
  rw [ref_chosen]
  exact keep_word (chosen x0 x1 b h s r) (by omega) _

theorem own_keys_word (s : Fin 2048) : val_main_v36 (F := Ideal) (ix2 s 0) = BitVec.ofNat 32 (s.val / 256) := by
  unfold val_main_v36 val_main_v35 val_main_v34 val_main_v33 val_main_v32 val_main_v31 val_main_c_2 val_main_c_3
  pointwise
  simp only [ref_id]
  exact keep_word (⟨s.val / 256, by omega⟩ : Fin 8) (by omega) _

theorem own_values_word (s : Fin 2048) : val_main_v43 (F := Ideal) (ix2 s 0) = BitVec.ofNat 32 (s.val / 256) := by
  unfold val_main_v43 val_main_v42 val_main_v41 val_main_v40 val_main_v39 val_main_v38 val_main_c_4 val_main_c_5
  pointwise
  simp only [ref_id]
  exact keep_word (⟨s.val / 256, by omega⟩ : Fin 8) (by omega) _

/-- The keys of a query's own block. -/
theorem own_keys (b : Fin 8) (h : Fin 16) (s : Fin 2048) (x : Fin 256) (d : Fin 128) :
    val_main_v37 (F := Ideal) x1 (ix5 b h s x d)
      = x1 (ix3 b (⟨s.val / 256 * 256 + x.val, by omega⟩ : Fin 2048) (⟨128 * h.val + d.val, by omega⟩ : Fin 2048)) :=
  (take_own b h s x d _ _ (⟨s.val / 256, by omega⟩ : Fin 8) (own_keys_word s)).trans (ref_k x1 b h _ x d)

/-- The values of a query's own block. -/
theorem own_values (b : Fin 8) (h : Fin 16) (s : Fin 2048) (x : Fin 256) (d : Fin 128) :
    val_main_v44 (F := Ideal) x2 (ix5 b h s x d)
      = x2 (ix3 b (⟨s.val / 256 * 256 + x.val, by omega⟩ : Fin 2048) (⟨128 * h.val + d.val, by omega⟩ : Fin 2048)) :=
  (take_own b h s x d _ _ (⟨s.val / 256, by omega⟩ : Fin 8) (own_values_word s)).trans (ref_v x2 b h _ x d)

/-- The keys of a query's chosen blocks. -/
theorem chosen_keys (b : Fin 8) (h : Fin 16) (s : Fin 2048) (r : Fin 3) (x : Fin 256) (d : Fin 128) :
    val_main_v77 (F := Ideal) x0 x1 (ix6 b h s r x d)
      = x1 (ix3 b (⟨(chosen x0 x1 b h s r).val * 256 + x.val, by omega⟩ : Fin 2048) (⟨128 * h.val + d.val, by omega⟩ : Fin 2048)) :=
  (take_sel b h s r x d _ _ _ (keys_batch x0 x1 b h s r) (keys_head x0 x1 b h s r) (keys_block x0 x1 b h s r)).trans (ref_k x1 b h _ x d)

/-- The values of a query's chosen blocks. -/
theorem chosen_values (b : Fin 8) (h : Fin 16) (s : Fin 2048) (r : Fin 3) (x : Fin 256) (d : Fin 128) :
    val_main_v99 (F := Ideal) x0 x1 x2 (ix6 b h s r x d)
      = x2 (ix3 b (⟨(chosen x0 x1 b h s r).val * 256 + x.val, by omega⟩ : Fin 2048) (⟨128 * h.val + d.val, by omega⟩ : Fin 2048)) :=
  (take_sel b h s r x d _ _ _ (values_batch x0 x1 b h s r) (values_head x0 x1 b h s r) (values_block x0 x1 b h s r)).trans (ref_v x2 b h _ x d)

end Cert.Attn
-- ==== Proof.Entry.lean ====
/-
  THE ARRAY THE CALL IS GIVEN, read at an index: columns 0–2047 are the scaled queries, 2048–4095 the keys, 4096–6143 the values.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- The packed array: scaled queries, keys and values side by side. -/
def packed (x0 x1 x2 : FVec Ideal S8x2048x2048 .f32) : FVec Ideal S16384x6144 .bf16 :=
  shapeCast S16384x6144
    (concatenate S8x2048x6144 2
      [⟨S8x2048x2048, truncf .bf16 (mulf x0 (broadcastInDim S8x2048x2048 ![] bcast_S_S8x2048x2048
          (Host.divf (constant S_ .f32 0x3DB504F3#32) (Host.log (constant S_ .f32 0x40000000#32)) : FVec Ideal S_ .f32))) bitsLt_bf16_f32⟩,
       ⟨S8x2048x2048, truncf .bf16 x1 bitsLt_bf16_f32⟩, ⟨S8x2048x2048, truncf .bf16 x2 bitsLt_bf16_f32⟩] concatenates_S8x2048x2048_S8x2048x2048_S8x2048x2048_S8x2048x6144_d2)
    shapeCasts_S8x2048x6144_S16384x6144

theorem entry_packed (c : Dev nD) : V m c main_v8
    = packed (m ((c : Thread nD τ).loc main_arg0)) (m ((c : Thread nD τ).loc main_arg1)) (m ((c : Thread nD τ).loc main_arg2)) := by
  sl_kernel_rfl

variable (x0 x1 x2 : FVec Ideal S8x2048x2048 .f32)

theorem packed_q (b : Fin 8) (s a : Fin 2048) :
    packed x0 x1 x2 (ix2 (⟨b.val * 2048 + s.val, by omega⟩ : Fin 16384) (⟨a.val, by omega⟩ : Fin 6144))
      = x0 (ix3 b s a) * Ideal.div (Ideal.ofBits .f32 0x3DB504F3#32) (Ideal.log (Ideal.ofBits .f32 0x40000000#32)) := by
  unfold packed
  pointwise

theorem packed_k (b : Fin 8) (s a : Fin 2048) :
    packed x0 x1 x2 (ix2 (⟨b.val * 2048 + s.val, by omega⟩ : Fin 16384) (⟨2048 + a.val, by omega⟩ : Fin 6144)) = x1 (ix3 b s a) := by
  unfold packed
  pointwise

theorem packed_v (b : Fin 8) (s a : Fin 2048) :
    packed x0 x1 x2 (ix2 (⟨b.val * 2048 + s.val, by omega⟩ : Fin 16384) (⟨4096 + a.val, by omega⟩ : Fin 6144)) = x2 (ix3 b s a) := by
  unfold packed
  pointwise
  rw [dif_neg (by omega), dif_neg (by omega)]
  exact congrArg (fun y => x2 (ix3 b s y)) (Fin.ext (by show 4096 + a.val - 2048 - 2048 = a.val; omega))

end Cert.Attn
-- ==== Proof.Array.lean ====
/-
  WHAT THE RESULT ARRAY HOLDS. Grid point (b, p) writes batch element `b`, heads `4p … 4p + 3`; row `2048 b + s`, column `128 h + d`
  of the array is the attention of batch element `b` and head `h` at query `s`, coordinate `d`.
-/
module

public import proofs.«01_k».proof.Proof.Block
public import proofs.«01_k».proof.Proof.Entry
public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- Head `h` of a staged block, at an index. -/
theorem headOf_apply (h : ℕ) (hh : h < 4) (arg : Memref sig .tc .vmem S2048x512 .bf16) (harg : arg.IsWhole) (x : Vec Ideal S2048x512 .bf16)
    (s : Fin 2048) (d : Fin 128) : headOf h hh arg harg x (ix2 s d) = x (ix2 s (⟨128 * h + d.val, by omega⟩ : Fin 512)) := by
  unfold headOf
  rw [View.readAt_eq_ld, Memref.IsWhole.read_unread]
  refine (congrFun (shapeCast_self _ _) _).trans ?_
  rw [View.ld_apply]
  refine congrArg x (funext fun a => Fin.ext ?_)
  match a with
  | ⟨0, _⟩ => show 0 + 1 * s.val = s.val; omega
  | ⟨1, _⟩ => show 128 * h + 1 * d.val = 128 * h + d.val; omega

/-- The scale of the scores: the float nearest `1/√128`. -/
def scale : ℝ := (Ideal.ofBits .f32 0x3DB504F3#32).toReal

theorem scale_word : Ideal.ofBits .f32 0x3DB504F3#32 = (scale : EReal) ∧ 0 < scale := by
  have h : Ideal.ofBits .f32 0x3DB504F3#32 = ((11863283 * (2 ^ 27)⁻¹ : ℝ) : EReal) := by
    simp [Ideal.ofBits, Ideal.ieee]
  unfold scale
  rw [h, EReal.toReal_coe]
  exact ⟨rfl, by positivity⟩

theorem scale_over_log : Ideal.div (Ideal.ofBits .f32 0x3DB504F3#32) (Ideal.log (Ideal.ofBits .f32 0x40000000#32)) = ((scale / Real.log 2 : ℝ) : EReal) := by
  rw [scale_word.1]
  have h2 : Ideal.ofBits .f32 0x40000000#32 = ((2 : ℝ) : EReal) := by
    simp [Ideal.ofBits, Ideal.ieee]
    rw [← EReal.coe_mul]
    norm_num
  rw [h2, show Ideal.log ((2 : ℝ) : EReal) = ((Real.log 2 : ℝ) : EReal) from ?_, div_coe _ _ (Real.log_pos one_lt_two).ne']
  show (if (2 : ℝ) ≤ 0 then (⊥ : EReal) else ((Real.log 2 : ℝ) : EReal)) = _
  norm_num

/-- The attention at batch element `b`, query `s`, column `a` of the heads side by side. -/
def attention (x0 x1 x2 : FVec Ideal S8x2048x2048 .f32) (b : Fin 8) (s a : Fin 2048) : EReal :=
  attend scale (fun s d => (x0 (ix3 b s (⟨128 * (a.val / 128) + d.val, by omega⟩ : Fin 2048)) : EReal).toReal)
    (fun s d => (x1 (ix3 b s (⟨128 * (a.val / 128) + d.val, by omega⟩ : Fin 2048)) : EReal).toReal) (fun κ => x2 (ix3 b κ a)) s

/-- The result array. -/
def result (x0 x1 x2 : FVec Ideal S8x2048x2048 .f32) : FVec Ideal S16384x2048 .bf16 := fun i =>
  attention x0 x1 x2 (⟨(i 0).val / 2048, by have : (i 0).val < 16384 := (i 0).isLt; omega⟩ : Fin 8) (⟨(i 0).val % 2048, by omega⟩ : Fin 2048) (i 1)

variable (m : (ℓ : Loc nD τ sig) → Buf (Elt Ideal) ℓ)

theorem idx0 : ∀ t : Fin grid0.N, win0_0.index t = ![t.val / 4, t.val % 4] := by decide +kernel
theorem idx1 : ∀ t : Fin grid0.N, win0_1.index t = ![t.val / 4, 4 + t.val % 4] := by decide +kernel
theorem idx2 : ∀ t : Fin grid0.N, win0_2.index t = ![t.val / 4, 8 + t.val % 4] := by decide +kernel
theorem idx3 : ∀ t : Fin grid0.N, win0_3.index t = ![t.val / 4, t.val % 4] := by decide +kernel

theorem iblk0 (c : Dev nD) (t : Fin cfg0.N) (s : Fin 2048) (a : Fin 512) (b : Fin 8) (p : Fin 4) (hb : t.val = 4 * b.val + p.val) :
    (iblk m c 0 t : Vec Ideal S2048x512 .bf16) (ix2 s a) = V m c main_v8 (ix2 (⟨b.val * 2048 + s.val, by omega⟩ : Fin 16384) (⟨512 * p.val + a.val, by omega⟩ : Fin 6144)) := by
  blk_ext [iblk, idx0 t]

theorem iblk1 (c : Dev nD) (t : Fin cfg0.N) (s : Fin 2048) (a : Fin 512) (b : Fin 8) (p : Fin 4) (hb : t.val = 4 * b.val + p.val) :
    (iblk m c 1 t : Vec Ideal S2048x512 .bf16) (ix2 s a) = V m c main_v8 (ix2 (⟨b.val * 2048 + s.val, by omega⟩ : Fin 16384) (⟨2048 + (512 * p.val + a.val), by omega⟩ : Fin 6144)) := by
  blk_ext [iblk, idx1 t]

theorem iblk2 (c : Dev nD) (t : Fin cfg0.N) (s : Fin 2048) (a : Fin 512) (b : Fin 8) (p : Fin 4) (hb : t.val = 4 * b.val + p.val) :
    (iblk m c 2 t : Vec Ideal S2048x512 .bf16) (ix2 s a) = V m c main_v8 (ix2 (⟨b.val * 2048 + s.val, by omega⟩ : Fin 16384) (⟨4096 + (512 * p.val + a.val), by omega⟩ : Fin 6144)) := by
  blk_ext [iblk, idx2 t]

/-- A grid point's block at an index, given what its three input blocks hold. -/
theorem point_value (c : Dev nD) (i : grid0.Coords) (arg2 : Memref sig .tc .vmem S2048x512 .bf16) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S3x2048x256 .f32) (harg6 : arg6.IsWhole)
    (q k v : Vec Ideal S2048x512 .bf16) (x0 x1 x2 : FVec Ideal S8x2048x2048 .f32) (b : Fin 8) (p : Fin 4)
    (h0 : ∀ j, ∃ x : ℝ, x0 j = (x : EReal)) (h1 : ∀ j, ∃ x : ℝ, x1 j = (x : EReal))
    (hq : ∀ (s : Fin 2048) (a : Fin 512), q (ix2 s a) = x0 (ix3 b s (⟨512 * p.val + a.val, by omega⟩ : Fin 2048)) * ((scale / Real.log 2 : ℝ) : EReal))
    (hk : ∀ (s : Fin 2048) (a : Fin 512), k (ix2 s a) = x1 (ix3 b s (⟨512 * p.val + a.val, by omega⟩ : Fin 2048)))
    (hv : ∀ (s : Fin 2048) (a : Fin 512), v (ix2 s a) = x2 (ix3 b s (⟨512 * p.val + a.val, by omega⟩ : Fin 2048)))
    (s : Fin 2048) (a : Fin 512) :
    out0_A_3 (F := Ideal) c i arg2 harg2 arg3 harg3 arg4 harg4 arg5 harg5 arg6 harg6 q k v (ix2 s a)
      = attention x0 x1 x2 b s (⟨512 * p.val + a.val, by omega⟩ : Fin 2048) := by
  have hu : 8 * (a.val / 128) + s.val / 256 < 32 := by omega
  obtain ⟨u, hueq⟩ : ∃ u, u = 8 * (a.val / 128) + s.val / 256 := ⟨_, rfl⟩
  have hd8 : u / 8 = a.val / 128 := by omega
  have hm8 : u % 8 = s.val / 256 := by omega
  rw [← hueq] at hu
  unfold out0_A_3
  rw [View.read_writes_junk_eq_canon, run_pieces]
  have hy : (ix2 s a : S2048x512.Idx) = at2 (256 * (u % 8) + s.val % 256) (128 * (u / 8) + a.val % 128) (by omega) (by omega) := by
    refine congrArg₂ ix2 (Fin.ext ?_) (Fin.ext ?_)
    · show s.val = 256 * (u % 8) + s.val % 256
      omega
    · show a.val = 128 * (u / 8) + a.val % 128
      omega
  rw [hy, canon_outs (u := u) (hu := hu) (r := s.val % 256) (d := a.val % 128) (hr := by omega) (hd := by omega)]
  have hcol : ∀ d : Fin 128, ∀ hlt, (⟨512 * p.val + (128 * (u / 8) + d.val), hlt⟩ : Fin 2048) = ⟨128 * ((512 * p.val + a.val) / 128) + d.val, by omega⟩ := fun d hlt =>
    Fin.ext (by show 512 * p.val + (128 * (u / 8) + d.val) = 128 * ((512 * p.val + a.val) / 128) + d.val; omega)
  have hs : ∀ hlt, (⟨256 * (u % 8) + s.val % 256, hlt⟩ : Fin 2048) = s := fun hlt =>
    Fin.ext (by show 256 * (u % 8) + s.val % 256 = s.val; omega)
  rw [blockOf_value scale scale_word.2
    (fun s d => (x0 (ix3 b s (⟨128 * ((512 * p.val + a.val) / 128) + d.val, by omega⟩ : Fin 2048)) : EReal).toReal)
    (fun s d => (x1 (ix3 b s (⟨128 * ((512 * p.val + a.val) / 128) + d.val, by omega⟩ : Fin 2048)) : EReal).toReal)]
  · rw [hs]
    unfold attention
    refine congrArg (fun w => attend scale _ _ w s) (funext fun κ => ?_)
    rw [headOf_apply, hv]
    refine congrArg (fun y => x2 (ix3 b κ y)) (Fin.ext ?_)
    show 512 * p.val + (128 * (u / 8) + a.val % 128) = 512 * p.val + a.val
    omega
  · intro s d
    rw [headOf_apply, hq, hcol]
    obtain ⟨x, hx⟩ := h0 (ix3 b s (⟨128 * ((512 * p.val + a.val) / 128) + d.val, by omega⟩ : Fin 2048))
    rw [hx, EReal.toReal_coe]
    exact (EReal.coe_mul _ _).symm
  · intro s d
    rw [headOf_apply, hk, hcol]
    obtain ⟨x, hx⟩ := h1 (ix3 b s (⟨128 * ((512 * p.val + a.val) / 128) + d.val, by omega⟩ : Fin 2048))
    rw [hx, EReal.toReal_coe]

/-- The result array after the run, for real queries and keys. -/
theorem array_value (c : Dev nD) (h0 : ∀ j, ∃ x : ℝ, (m ((c : Thread nD τ).loc main_arg0) : FVec Ideal S8x2048x2048 .f32) j = (x : EReal))
    (h1 : ∀ j, ∃ x : ℝ, (m ((c : Thread nD τ).loc main_arg1) : FVec Ideal S8x2048x2048 .f32) j = (x : EReal)) :
    (dats m 0 c).arrAt 3 cfg0.N
      = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hN : t.val < 32 := t.isLt
  obtain ⟨s, a, rfl⟩ : ∃ (s : Fin 2048) (a : Fin 512), y = ix2 s a := ⟨y 0, y 1, funext fun x => by
    match x with
    | ⟨0, _⟩ => rfl
    | ⟨1, _⟩ => rfl⟩
  have he : ((win0_3.blk t).view.emb (ix2 s a) : S16384x2048.Idx)
      = ix2 (⟨t.val / 4 * 2048 + s.val, by omega⟩ : Fin 16384) (⟨512 * (t.val % 4) + a.val, by omega⟩ : Fin 2048) := by
    blk_ext [idx3 t]
  rw [he]
  have ht : t.val = 4 * (⟨t.val / 4, by omega⟩ : Fin 8).val + (⟨t.val % 4, by omega⟩ : Fin 4).val := by
    show t.val = 4 * (t.val / 4) + t.val % 4
    omega
  refine (point_value c (grid0.coords t) (ms0_0 t) (hs0_0 t) (ms0_1 t) (hs0_1 t) (ms0_2 t) (hs0_2 t) (ms0_3 t) (hs0_3 t) scM0_0 (Memref.isWhole_whole _)
    (iblk m c 0 t) (iblk m c 1 t) (iblk m c 2 t) _ _ (m ((c : Thread nD τ).loc main_arg2)) ⟨t.val / 4, by omega⟩ ⟨t.val % 4, by omega⟩ h0 h1
    (fun s a => ?_) (fun s a => ?_) (fun s a => ?_) s a).trans ?_
  · rw [iblk0 m c t s a _ _ ht, entry_packed, ← scale_over_log]
    exact packed_q _ _ _ ⟨t.val / 4, by omega⟩ s ⟨512 * (t.val % 4) + a.val, by omega⟩
  · rw [iblk1 m c t s a _ _ ht, entry_packed]
    exact packed_k _ _ _ ⟨t.val / 4, by omega⟩ s ⟨512 * (t.val % 4) + a.val, by omega⟩
  · rw [iblk2 m c t s a _ _ ht, entry_packed]
    exact packed_v _ _ _ ⟨t.val / 4, by omega⟩ s ⟨512 * (t.val % 4) + a.val, by omega⟩
  · unfold result
    refine congrArg₂ (fun b s => attention _ _ _ b s _) (Fin.ext ?_) (Fin.ext ?_)
    · show t.val / 4 = (t.val / 4 * 2048 + s.val) / 2048
      omega
    · show s.val = (t.val / 4 * 2048 + s.val) % 2048
      omega

end Cert.Attn
-- ==== Proof.RefScore.lean ====
module

public import proofs.«01_k».proof.Proof.RefGate
public import proofs.«01_k».proof.Proof.Array

@[expose] public section

set_option maxRecDepth 16384

noncomputable section

/-! The reference's scores: a query's own block up to the query, then its chosen blocks. -/

namespace Cert.Attn

open Cert.ReferenceIdeal Cert.ReferenceIdeal.Gen Cert.ReferenceIdeal.Read Idealize.ShloMosaic Idealize.ShloMosaic.TcCoe Idealize.SL.Sem
open scoped BigOperators

variable (x0 x1 x2 : FVec Ideal S8x2048x2048 .f32)
variable (h0 : ∀ j, ∃ r : ℝ, x0 j = (r : EReal)) (h1 : ∀ j, ∃ r : ℝ, x1 j = (r : EReal))

/-- The key at a place among a query's 1024. -/
def keyAt (b : Fin 8) (h : Fin 16) (s : Fin 2048) (j : Fin 1024) : Fin 2048 :=
  if hj : j.val < 256 then ⟨s.val / 256 * 256 + j.val, by omega⟩
  else ⟨(chosen x0 x1 b h s ⟨(j.val - 256) / 256, by omega⟩).val * 256 + (j.val - 256) % 256, by omega⟩

/-- Whether the place holds a key the query sees. -/
def shown (s : Fin 2048) (j : Fin 1024) : Prop :=
  if j.val < 256 then s.val / 256 * 256 + j.val ≤ s.val else (j.val - 256) / 256 < s.val / 256

theorem negInf_id (i : S_.Idx) : id (constant (F := Ideal) S_ .f32 0xFF800000#32) i = (⊥ : EReal) := negInf_word

/-- A dot product of a query and a key, scaled. -/
theorem scaled (Q K : Fin 2048 → Fin 128 → ℝ) (s κ : Fin 2048) :
    (∑ d, (Q s d : EReal) * (K κ d : EReal)) * Ideal.ofBits .f32 0x3DB504F3#32 = (score scale Q K s κ : EReal) := by
  rw [scale_word.1]
  unfold score
  rw [EReal.coe_mul, coe_sum]
  refine congrArg (· * (scale : EReal)) (Finset.sum_congr rfl fun d _ => (EReal.coe_mul _ _).symm)

include h0 h1 in
theorem own_score (b : Fin 8) (h : Fin 16) (s : Fin 2048) (x : Fin 256) :
    val_main_v103 (F := Ideal) x0 x1 (ix4 b h s x)
      = if s.val / 256 * 256 + x.val ≤ s.val
        then (score scale (headReal x0 b h) (headReal x1 b h) s ⟨s.val / 256 * 256 + x.val, by omega⟩ : EReal) else ⊥ := by
  unfold val_main_v103 val_main_call2_v1 val_main_call2_v2 val_main_call2_v0 val_main_cst_20 val_main_v102 val_main_v101 val_main_cst_19 val_main_v100
    val_main_v55 val_main_v52 val_main_v54 val_main_v50 val_main_v51 val_main_v53 val_main_v49 val_main_v48 val_main_v47 val_main_v45 val_main_v46 val_main_c_6 val_main_v11
  pointwise
  simp only [own_keys, ref_q, headReal_eq x0 h0, headReal_eq x1 h1, ref_id]
  have hm : IntOp.addi (IntOp.muli (BitVec.ofNat 32 (s.val / 256)) 256#32) (BitVec.ofNat 32 x.val) = BitVec.ofNat 32 (s.val / 256 * 256 + x.val) := by
    unfold IntOp.addi IntOp.muli
    rw [BitVec.ofNat_add, BitVec.ofNat_mul]
  rw [hm, WordCmp.cmpi_sle_ofNat (by omega) (by omega), WordCmp.select_decide, scaled]
  exact if_congr Iff.rfl rfl (negInf_id ix0)

include h0 h1 in
theorem chosen_score (b : Fin 8) (h : Fin 16) (s : Fin 2048) (r : Fin 3) (x : Fin 256) :
    val_main_v108 (F := Ideal) x0 x1 (ix5 b h s r x)
      = if r.val < s.val / 256
        then (score scale (headReal x0 b h) (headReal x1 b h) s ⟨(chosen x0 x1 b h s r).val * 256 + x.val, by omega⟩ : EReal) else ⊥ := by
  unfold val_main_v108 val_main_call3_v1 val_main_call3_v2 val_main_call3_v0 val_main_cst_22 val_main_v107 val_main_v106 val_main_v105 val_main_cst_21 val_main_v104
    val_main_v26 val_main_v24 val_main_v25 val_main_v22 val_main_v21 val_main_v23
  pointwise
  simp only [chosen_keys, ref_q, headReal_eq x0 h0, headReal_eq x1 h1, ref_id]
  rw [WordCmp.cmpi_slt_ofNat (by omega) (by omega), WordCmp.select_decide, scaled]
  exact if_congr Iff.rfl rfl (negInf_id ix0)

include h0 h1 in
/-- The score at each of a query's 1024 places. -/
theorem all_score (b : Fin 8) (h : Fin 16) (s : Fin 2048) (j : Fin 1024) :
    val_main_v110 (F := Ideal) x0 x1 (ix4 b h s j)
      = by classical exact if shown s j then (score scale (headReal x0 b h) (headReal x1 b h) s (keyAt x0 x1 b h s j) : EReal) else ⊥ := by
  classical
  unfold val_main_v110 val_main_v109
  pointwise
  unfold shown keyAt
  by_cases hj : j.val < 256
  · simp only [dif_pos hj, if_pos hj]
    exact own_score x0 x1 h0 h1 b h s ⟨j.val, hj⟩
  · simp only [dif_neg hj, if_neg hj]
    exact chosen_score x0 x1 h0 h1 b h s ⟨(j.val - 256) / 256, by omega⟩ ⟨(j.val - 256) % 256, by omega⟩

/-- The greatest of 1024 scores. -/
theorem host_max (x : FVec Ideal S8x16x2048x1024 .f32) (e : FVec Ideal S_ .f32) (b : Fin 8) (h : Fin 16) (s : Fin 2048) :
    Host.reduce FloatOps.maximumf x e reducesTo_S8x16x2048x1024_S8x16x2048_d3 h_S_ (ix3 b h s)
      = Finset.univ.fold max (e (Shape.Idx.first h_S_)) fun j : Fin 1024 => x (ix4 b h s j) := by
  have hr : S8x16x2048x1024.Reduces [(3 : Fin 4)] S8x16x2048 := by decide
  refine (Host.reduce_eq_fold_single FloatOps.maximumf x e reducesTo_S8x16x2048x1024_S8x16x2048_d3 hr h_S_ (ix3 b h s)).trans ?_
  refine Finset.fold_congr fun j _ => congrArg x (funext fun a => Fin.ext ?_)
  match a with
  | ⟨0, _⟩ => rfl
  | ⟨1, _⟩ => rfl
  | ⟨2, _⟩ => rfl
  | ⟨3, _⟩ => rfl

end Cert.Attn
-- ==== Proof.RefValue.lean ====
module

public import proofs.«01_k».proof.Proof.RefScore

@[expose] public section

set_option maxRecDepth 16384

noncomputable section

/-! The reference's result: its 1024 places number the visible keys, so its average over the places is the average over the keys. -/

namespace Cert.Attn

open Cert.ReferenceIdeal Cert.ReferenceIdeal.Gen Cert.ReferenceIdeal.Read Idealize.ShloMosaic Idealize.ShloMosaic.TcCoe Idealize.SL.Sem
open scoped BigOperators

variable (x0 x1 x2 : FVec Ideal S8x2048x2048 .f32)
variable (h0 : ∀ j, ∃ r : ℝ, x0 j = (r : EReal)) (h1 : ∀ j, ∃ r : ℝ, x1 j = (r : EReal))

theorem shown_self (s : Fin 2048) : shown s ⟨s.val % 256, by omega⟩ := by
  have h : s.val % 256 < 256 := by omega
  unfold shown
  rw [if_pos h]
  show s.val / 256 * 256 + s.val % 256 ≤ s.val
  omega

theorem max_read (x y : FVec Ideal S8x16x2048 .f32) (i : S8x16x2048.Idx) : maximumf x y i = max (x i) (y i) := rfl

theorem spread_read (e : FVec Ideal S_ .f32) (b : Fin 8) (h : Fin 16) (s : Fin 2048) :
    broadcastInDim S8x16x2048 ![] bcast_S_S8x16x2048 e (ix3 b h s) = e ix0 := by
  pointwise

theorem negInf_read (i : S_.Idx) : (constant S_ .f32 0xFF800000#32 : FVec Ideal S_ .f32) i = (⊥ : EReal) := negInf_word

include h0 h1 in
/-- The greatest score is a real. -/
theorem top_real (b : Fin 8) (h : Fin 16) (s : Fin 2048) : ∃ μ : ℝ, val_main_v113 (F := Ideal) x0 x1 (ix3 b h s) = (μ : EReal) := by
  classical
  have e : val_main_v113 (F := Ideal) x0 x1 (ix3 b h s)
      = max ⊥ (Finset.univ.fold max ⊥ fun j : Fin 1024 => val_main_v110 (F := Ideal) x0 x1 (ix4 b h s j)) := by
    unfold val_main_v113 val_main_v112 val_main_cst_24 val_main_v111 val_main_cst_23
    rw [max_read, spread_read, host_max, negInf_read, negInf_read]
  rw [e, max_eq_right bot_le]
  refine ⟨EReal.toReal _, (EReal.coe_toReal ?_ ?_).symm⟩
  · refine fold_max_ne_top _ _ fun j _ => ?_
    rw [all_score x0 x1 h0 h1]
    split
    · exact EReal.coe_ne_top _
    · exact bot_ne_top
  · refine fold_max_ne_bot _ _ ⟨s.val % 256, by omega⟩ (Finset.mem_univ _) ?_
    rw [all_score x0 x1 h0 h1, if_pos (shown_self s)]
    exact EReal.coe_ne_bot _

include h0 h1 in
/-- The weight of each place. -/
theorem weight (b : Fin 8) (h : Fin 16) (s : Fin 2048) (j : Fin 1024) :
    val_main_v121 (F := Ideal) x0 x1 (ix4 b h s j)
      = ((mass (shown s) (fun j => score scale (headReal x0 b h) (headReal x1 b h) s (keyAt x0 x1 b h s j)) j
          / ∑ j, mass (shown s) (fun j => score scale (headReal x0 b h) (headReal x1 b h) s (keyAt x0 x1 b h s j)) j : ℝ) : EReal) := by
  obtain ⟨μ, hμ⟩ := top_real x0 x1 h0 h1 b h s
  have hz : val_main_cst_25 (F := Ideal) (Shape.Idx.first h_S_) = 0 := by
    show Ideal.ofBits .f32 0x00000000#32 = 0
    simp [Ideal.ofBits, Ideal.ieee]
  unfold val_main_v121 val_main_v120 val_main_v119 val_main_v118 val_main_v117 val_main_v116 val_main_v115 val_main_v114
  pointwise
  rw [hz, zero_add, hμ]
  exact exp_average (shown s) _ _ μ (fun k => all_score x0 x1 h0 h1 b h s k) _ (shown_self s) j

/-- A sum over the 1024 places: the own block, then row by row of the three chosen ones. -/
theorem sum_places (F : Fin 1024 → EReal) :
    ∑ j, F j = (∑ x : Fin 256, F ⟨x.val, by omega⟩) + ∑ x : Fin 256, ∑ r : Fin 3, F ⟨256 + (r.val * 256 + x.val), by omega⟩ := by
  have e := Fin.sum_univ_add (a := 256) (b := 768) F
  refine e.trans (congrArg₂ (· + ·) rfl ?_)
  rw [Finset.sum_comm, ← Fintype.sum_prod_type' (f := fun (r : Fin 3) (x : Fin 256) => F ⟨256 + (r.val * 256 + x.val), by omega⟩)]
  refine (Fintype.sum_equiv (finProdFinEquiv (m := 3) (n := 256)) _ _ fun p => ?_).symm
  refine congrArg F (Fin.ext ?_)
  show 256 + (p.1.val * 256 + p.2.val) = 256 + (p.2.val + 256 * p.1.val)
  omega

theorem keyAt_own (b : Fin 8) (h : Fin 16) (s : Fin 2048) (x : Fin 256) :
    keyAt x0 x1 b h s ⟨x.val, by omega⟩ = ⟨s.val / 256 * 256 + x.val, by omega⟩ := by
  unfold keyAt
  exact dif_pos x.isLt

theorem keyAt_chosen (b : Fin 8) (h : Fin 16) (s : Fin 2048) (r : Fin 3) (x : Fin 256) :
    keyAt x0 x1 b h s ⟨256 + (r.val * 256 + x.val), by omega⟩ = ⟨(chosen x0 x1 b h s r).val * 256 + x.val, by omega⟩ := by
  unfold keyAt
  rw [dif_neg (by show ¬ 256 + (r.val * 256 + x.val) < 256; omega)]
  have hr : (⟨(256 + (r.val * 256 + x.val) - 256) / 256, by omega⟩ : Fin 3) = r := Fin.ext (by show (256 + (r.val * 256 + x.val) - 256) / 256 = r.val; omega)
  have hx : (256 + (r.val * 256 + x.val) - 256) % 256 = x.val := by omega
  refine Fin.ext ?_
  show (chosen x0 x1 b h s ⟨(256 + (r.val * 256 + x.val) - 256) / 256, _⟩).val * 256 + (256 + (r.val * 256 + x.val) - 256) % 256 = _
  rw [hr, hx]

/-- A place is in the own block or in a chosen one. -/
theorem place_cases (j : Fin 1024) :
    (∃ x : Fin 256, j = ⟨x.val, by omega⟩) ∨ ∃ (r : Fin 3) (x : Fin 256), j = ⟨256 + (r.val * 256 + x.val), by omega⟩ := by
  by_cases hj : j.val < 256
  · exact .inl ⟨⟨j.val, hj⟩, rfl⟩
  · refine .inr ⟨⟨(j.val - 256) / 256, by omega⟩, ⟨(j.val - 256) % 256, by omega⟩, Fin.ext ?_⟩
    show j.val = 256 + ((j.val - 256) / 256 * 256 + (j.val - 256) % 256)
    omega

theorem shown_own (s : Fin 2048) (x : Fin 256) : shown s ⟨x.val, by omega⟩ ↔ s.val / 256 * 256 + x.val ≤ s.val := by
  unfold shown
  rw [if_pos x.isLt]

theorem shown_chosen (s : Fin 2048) (r : Fin 3) (x : Fin 256) : shown s ⟨256 + (r.val * 256 + x.val), by omega⟩ ↔ r.val < s.val / 256 := by
  unfold shown
  rw [if_neg (by show ¬ 256 + (r.val * 256 + x.val) < 256; omega)]
  show (256 + (r.val * 256 + x.val) - 256) / 256 < s.val / 256 ↔ _
  rw [show (256 + (r.val * 256 + x.val) - 256) / 256 = r.val by omega]

section Numbering
variable (b : Fin 8) (h : Fin 16) (s : Fin 2048)
variable (hr : ∀ n : Fin 8, n.val < s.val / 256 → ⊥ < gatesAt x0 x1 b h s n) (hb : ∀ n : Fin 8, s.val / 256 ≤ n.val → gatesAt x0 x1 b h s n = ⊥)

include hr hb in
/-- Shown places hold different keys. -/
theorem keyAt_injective (i j : Fin 1024) (hi : shown s i) (hj : shown s j) (e : keyAt x0 x1 b h s i = keyAt x0 x1 b h s j) : i = j := by
  have past : ∀ r : Fin 3, r.val < s.val / 256 → (chosen x0 x1 b h s r).val < s.val / 256 :=
    fun r hri => placed_past _ _ hr hb (r.castLE (by omega)) hri
  rcases place_cases i with ⟨x, rfl⟩ | ⟨r, x, rfl⟩ <;> rcases place_cases j with ⟨y, rfl⟩ | ⟨t, y, rfl⟩
  · rw [keyAt_own, keyAt_own] at e
    have e' := Fin.mk.inj_iff.1 e
    exact Fin.ext (by show x.val = y.val; omega)
  · rw [keyAt_own, keyAt_chosen] at e
    have e' := Fin.mk.inj_iff.1 e
    have := past t ((shown_chosen s t y).1 hj)
    omega
  · rw [keyAt_own, keyAt_chosen] at e
    have e' := Fin.mk.inj_iff.1 e
    have := past r ((shown_chosen s r x).1 hi)
    omega
  · rw [keyAt_chosen, keyAt_chosen] at e
    have e' := Fin.mk.inj_iff.1 e
    have hc : chosen x0 x1 b h s r = chosen x0 x1 b h s t := Fin.ext (by omega)
    have hrt : r = t := Fin.ext (congrArg (fun a : Fin 8 => a.val) (placed_injective _ hc))
    have hxy : x.val = y.val := by omega
    exact Fin.ext (by show 256 + (r.val * 256 + x.val) = 256 + (t.val * 256 + y.val); rw [hrt, hxy])

include hr hb in
/-- A shown place holds a visible key. -/
theorem keyAt_visible (j : Fin 1024) (hj : shown s j) : Visible (gatesAt x0 x1 b h s) s (keyAt x0 x1 b h s j) := by
  rcases place_cases j with ⟨x, rfl⟩ | ⟨r, x, rfl⟩
  · rw [keyAt_own]
    have hx := (shown_own s x).1 hj
    exact .inl ⟨show (s.val / 256 * 256 + x.val) / 256 = s.val / 256 by omega, hx⟩
  · rw [keyAt_chosen]
    obtain ⟨hn, ha⟩ := placed_selected _ _ hr hb r ((shown_chosen s r x).1 hj)
    have hq : ((chosen x0 x1 b h s r).val * 256 + x.val) / 256 = (chosen x0 x1 b h s r).val := by omega
    refine .inr ⟨?_, ?_⟩
    · show ((chosen x0 x1 b h s r).val * 256 + x.val) / 256 < s.val / 256
      rw [hq]
      exact hn
    · have hf : (⟨((chosen x0 x1 b h s r).val * 256 + x.val) / 256, by omega⟩ : Fin 8) = chosen x0 x1 b h s r := Fin.ext hq
      show ahead _ (s.val / 256) (⟨((chosen x0 x1 b h s r).val * 256 + x.val) / 256, _⟩ : Fin 8) < 3
      rw [hf]
      exact ha

include hr hb in
/-- A visible key is at a shown place. -/
theorem visible_keyAt (κ : Fin 2048) (hκ : Visible (gatesAt x0 x1 b h s) s κ) : ∃ j, shown s j ∧ keyAt x0 x1 b h s j = κ := by
  rcases hκ with ⟨hq, hle⟩ | ⟨hq, ha⟩
  · have hle' : κ.val ≤ s.val := hle
    refine ⟨⟨(⟨κ.val % 256, by omega⟩ : Fin 256).val, by omega⟩, (shown_own s ⟨κ.val % 256, by omega⟩).2 ?_, ?_⟩
    · show s.val / 256 * 256 + κ.val % 256 ≤ s.val
      omega
    · rw [keyAt_own]
      exact Fin.ext (by show s.val / 256 * 256 + κ.val % 256 = κ.val; omega)
  · obtain ⟨r, hri, hp⟩ := selected_placed _ _ hr hb ⟨κ.val / 256, by omega⟩ hq ha
    refine ⟨⟨256 + (r.val * 256 + (⟨κ.val % 256, by omega⟩ : Fin 256).val), by omega⟩, (shown_chosen s r ⟨κ.val % 256, by omega⟩).2 hri, ?_⟩
    rw [keyAt_chosen]
    refine Fin.ext ?_
    have hc : (chosen x0 x1 b h s r).val = κ.val / 256 := congrArg Fin.val hp
    show (chosen x0 x1 b h s r).val * 256 + κ.val % 256 = κ.val
    omega

end Numbering

include h0 h1 in
/-- One entry of the reference's result, by heads. -/
theorem ref_attend (b : Fin 8) (h : Fin 16) (s : Fin 2048) (d : Fin 128) :
    val_main_v127 (F := Ideal) x0 x1 x2 (ix4 b h s d)
      = attend scale (headReal x0 b h) (headReal x1 b h) (fun κ => x2 (ix3 b κ (⟨128 * h.val + d.val, by omega⟩ : Fin 2048))) s := by
  have hγ : gatesAt x0 x1 b h s = gates (headReal x0 b h) (headReal x1 b h) s := funext fun n => ref_gate x0 x1 h0 h1 b h s n
  have hr : ∀ n : Fin 8, n.val < s.val / 256 → ⊥ < gatesAt x0 x1 b h s n := fun n hn => by
    rw [hγ]
    unfold gates
    rw [if_pos hn]
    exact EReal.bot_lt_coe _
  have hb : ∀ n : Fin 8, s.val / 256 ≤ n.val → gatesAt x0 x1 b h s n = ⊥ := fun n hn => by
    rw [hγ]
    unfold gates
    rw [if_neg (by omega)]
  have key := average_reindex (shown s) (Visible (gatesAt x0 x1 b h s) s) (score scale (headReal x0 b h) (headReal x1 b h) s)
    (fun κ => x2 (ix3 b κ (⟨128 * h.val + d.val, by omega⟩ : Fin 2048))) (keyAt x0 x1 b h s)
    (keyAt_injective x0 x1 b h s hr hb) (keyAt_visible x0 x1 b h s hr hb) (visible_keyAt x0 x1 b h s hr hb)
  unfold attend
  rw [← hγ, ← key]
  unfold average
  rw [sum_places]
  unfold val_main_v127 val_main_v126 val_main_v125 val_main_v124 val_main_v123 val_main_v122
  pointwise
  simp only [own_values, chosen_values, weight x0 x1 h0 h1, keyAt_own, keyAt_chosen]
  refine congrArg₂ (· + ·) (Finset.sum_congr rfl fun x _ => mul_comm _ _) (Finset.sum_congr rfl fun x _ => Finset.sum_congr rfl fun r _ => mul_comm _ _)

include h0 h1 in
/-- The reference's result is the attention. -/
theorem ref_result : val_main_v130 (F := Ideal) x0 x1 x2 = result x0 x1 x2 := by
  funext i
  obtain ⟨n, a, rfl⟩ : ∃ (n : Fin 16384) (a : Fin 2048), i = ix2 n a := ⟨i 0, i 1, funext fun c => by match c with | ⟨0, _⟩ => rfl | ⟨1, _⟩ => rfl⟩
  have e : val_main_v130 (F := Ideal) x0 x1 x2 (ix2 n a) = val_main_v127 (F := Ideal) x0 x1 x2 (ix4 (⟨n.val / 2048, by omega⟩ : Fin 8) (⟨a.val / 128, by omega⟩ : Fin 16) (⟨n.val % 2048, by omega⟩ : Fin 2048) (⟨a.val % 128, by omega⟩ : Fin 128)) := by
    unfold val_main_v130 val_main_v129 val_main_v128
    pointwise
  rw [e, ref_attend x0 x1 x2 h0 h1]
  have ha : (⟨128 * (a.val / 128) + a.val % 128, by omega⟩ : Fin 2048) = a := Fin.ext (by show 128 * (a.val / 128) + a.val % 128 = a.val; omega)
  show attend scale _ _ (fun κ => x2 (ix3 _ κ (⟨128 * (a.val / 128) + a.val % 128, _⟩ : Fin 2048))) _ = _
  rw [ha]
  rfl

end Cert.Attn
-- ==== Proof.Attention.lean ====
module

public import proofs.«01_k».proof.Defs
public import proofs.«01_k».proof.Proof.Finite
public import proofs.«01_k».proof.Proof.RefValue
public import proofs.«01_k».proof.Proof.Gen.Kernel.Frame

@[expose] public section

noncomputable section

/-! The claims about the attention: the kernel and the reference run and keep their arguments, and on
real queries and keys both end with the same attention. -/

namespace Cert.Attn

open Idealize.ShloMosaic Idealize.ShloMosaic.TcCoe Idealize.SL.Sem

/-- The reference's run leaves the attention of its arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD,
        r.2.mem ((c.tc : Thread Cert.ReferenceIdeal.nD Cert.ReferenceIdeal.τ).loc Cert.ReferenceIdeal.main_v130)
          = Cert.ReferenceIdeal.Read.val_main_v130 (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c).1.trans ((Cert.ReferenceIdeal.Read.val_main_v130_eq (F := Ideal) _).trans rfl), (h c).2⟩)
    (Cert.ReferenceIdeal.Value.run (F := Ideal) m g)

/-- The reference keeps its arguments; it declares no semaphore. -/
theorem frame_reference : Cert.quiescent_ReferenceIdeal := fun m g _ =>
  (θ_run _ _ _).mono (fun r h => ⟨fun c => (h c).2, sem_eq_zero_of_no_sems (by decide) r.2⟩) (reference_run m g)

theorem algebraic : Cert.algebraic_KernelIdeal_ReferenceIdeal_pre_finite_qk := by
  intro m g m' g' hpre hagree
  have hf : ∀ c : Dev Cert.KernelIdeal.nD, (∀ j, ∃ r : ℝ, m ((c.tc : Thread Cert.KernelIdeal.nD Cert.KernelIdeal.τ).loc Cert.KernelIdeal.main_arg0) j = (r : EReal))
      ∧ ∀ j, ∃ r : ℝ, m ((c.tc : Thread Cert.KernelIdeal.nD Cert.KernelIdeal.τ).loc Cert.KernelIdeal.main_arg1) j = (r : EReal) :=
    fun c => finite_of_pre _ _ _ (hpre c)
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run _ _ _).mono (fun _ h c => ⟨(h c).1.trans (array_value m c (hf c).1 (hf c).2), (h c).2⟩)
      (Cert.KernelIdeal.Value.run_blocks (F := Ideal) m g)
  · refine (θ_run _ _ _).mono (fun _ h c => ⟨(h c).1.trans ?_, (h c).2⟩) (reference_run m' g')
    rw [(hagree c).1, (hagree c).2.1, (hagree c).2.2]
    exact ref_result _ _ _ (hf c).1 (hf c).2

end Cert.Attn
-- ==== Proof.ProjBlock.lean ====
/-
  ONE BLOCK OF THE PROJECTION. A grid point takes 1024 rows of the input and 1024 columns of the weights. Four things are made of the
  product: rotated heads (queries and keys), the product itself (values), the product times the sigmoid of a second product, and the
  sigmoid of the product (gates). Each is read here at a row and a column.
-/
module

public import proofs.«01_k».proof.Proof.UnitVal
public import proofs.«01_k».proof.Proof.Gen.Kernel2Ideal.Skeleton
public import Idealize.ShloMosaic.Lib.Pointwise

@[expose] public section

set_option maxRecDepth 16384

noncomputable section

namespace Cert.Proj

open Cert.Kernel2Ideal Cert.Kernel2Ideal.Gen Idealize.ShloMosaic Idealize.ShloMosaic.TcCoe
open Cert.Attn (Mat slices2)

/-- The sigmoid. -/
def sigm (x : EReal) : EReal := Ideal.div 1 (1 + Ideal.exp (-x))

/-- Row `r`, column `c` of a product with its bias. -/
def lin (x : FVec Ideal S1024x2048 .bf16) (w : FVec Ideal S2048x1024 .bf16) (b : FVec Ideal S1x1024 .f32) (r c : Fin 1024) : EReal :=
  (∑ d : Fin 2048, (x (ix2 r d) : EReal) * w (ix2 d c)) + b (ix2 (0 : Fin 1) c)

variable (x x' : Vec Ideal S1024x2048 .bf16) (w w' : Vec Ideal S2048x1024 .bf16) (b b' : Vec Ideal S1x1024 .f32) (r c : Fin 1024)

theorem product_apply : k0_pay5 (F := Ideal) x w b (ix2 r c) = lin x w b r c := by
  unfold k0_pay5 lin
  pointwise

theorem plain_eq : k0_pay2 (F := Ideal) x w b = truncf .bf16 (k0_pay5 x w b) bitsLt_bf16_f32 := rfl

/-- The gate of a product. -/
def gateOf (u : FVec Ideal S1024x1024 .f32) : FVec Ideal S1024x1024 .f32 :=
  divf (broadcast S1024x1024 (Scalar.ofBits .f32 0x3F800000#32))
    (addf (broadcast S1024x1024 (Scalar.ofBits .f32 0x3F800000#32)) (exp (subf (broadcast S1024x1024 (Scalar.ofBits .f32 0x00000000#32)) u)))

theorem gateOf_apply (u : FVec Ideal S1024x1024 .f32) : gateOf u (ix2 r c) = sigm (u (ix2 r c)) := by
  unfold gateOf sigm
  pointwise
  rw [zero_sub]

theorem glu_eq : k0_pay3 (F := Ideal) x w b x' w' b' = truncf .bf16 (mulf (k0_pay5 x w b) (gateOf (k0_pay5 x' w' b'))) bitsLt_bf16_f32 := rfl

theorem gate_eq : k0_pay4 (F := Ideal) x w b = truncf .bf16 (gateOf (k0_pay5 x w b)) bitsLt_bf16_f32 := rfl

theorem plain_apply : k0_pay2 (F := Ideal) x w b (ix2 r c) = lin x w b r c := by
  rw [plain_eq]
  exact product_apply x w b r c

theorem glu_apply : k0_pay3 (F := Ideal) x w b x' w' b' (ix2 r c) = lin x w b r c * sigm (lin x' w' b' r c) := by
  rw [glu_eq, ← product_apply, ← product_apply, ← gateOf_apply]
  rfl

theorem gate_apply : k0_pay4 (F := Ideal) x w b (ix2 r c) = sigm (lin x w b r c) := by
  rw [gate_eq, ← product_apply, ← gateOf_apply]
  rfl

/-- Head `h` of a product, rotated with the tables `C` and `S`. -/
def rope (u : FVec Ideal S1024x1024 .f32) (C S : FVec Ideal S1024x128 .f32) (h : ℕ) (hh : h < 8) : FVec Ideal S1024x128 .bf16 :=
  truncf .bf16
    (addf (mulf (extractStridedSlice S1024x128 ![0, 128 * h] u (slices2 (by omega) (by omega))) C)
      (mulf (dynamicRotate 1 64#32 none (extractStridedSlice S1024x128 ![0, 128 * h] u (slices2 (by omega) (by omega))) rotates_S1024x128_d1) S))
    bitsLt_bf16_f32

/-- The coordinate of a head that is turned against coordinate `e`. -/
def partner (e : Fin 128) : Fin 128 := ⟨(e.val + 128 - 64) % 128, Nat.mod_lt _ (by decide)⟩

theorem rope_apply (u : FVec Ideal S1024x1024 .f32) (C S : FVec Ideal S1024x128 .f32) (h : ℕ) (hh : h < 8) (e : Fin 128) :
    rope u C S h hh (ix2 r e)
      = u (ix2 r (⟨128 * h + e.val, by omega⟩ : Fin 1024)) * C (ix2 r e)
        + u (ix2 r (⟨128 * h + (partner e).val, by omega⟩ : Fin 1024)) * S (ix2 r e) := by
  unfold rope partner
  pointwise

/-- A head's columns lie in the block. -/
theorem inbCols (h : ℕ) (hh : h < 8) : ∀ a, (![0, 128 * h] : Fin 2 → ℕ) a + S1024x128.size a ≤ S1024x1024.size a := fun a => by
  match a with
  | ⟨0, _⟩ => exact Nat.le_refl 1024
  | ⟨1, _⟩ => show 128 * h + 128 ≤ 1024; omega

/-- The rotated heads in a block of the result, the first `n`. -/
def ropes (u : FVec Ideal S1024x1024 .f32) (C S : FVec Ideal S1024x128 .f32) : (n : ℕ) → n ≤ 8 → List (View.Piece (Elt Ideal) S1024x1024 .bf16)
  | 0, _ => []
  | n + 1, h => ⟨Rect.unit ![0, 128 * n] S1024x128.size (inbCols n (by omega)), rope u C S n (by omega)⟩ :: ropes u C S n (by omega)

/-- The block of rotated heads at an index. -/
theorem canon_ropes (u : FVec Ideal S1024x1024 .f32) (C S : FVec Ideal S1024x128 .f32) (n : ℕ) (hn : n ≤ 8) (h : ℕ) (hh : h < n) (e : Fin 128) :
    View.canon (ropes u C S n hn) (ix2 r (⟨128 * h + e.val, by omega⟩ : Fin 1024)) = rope u C S h (by omega) (ix2 r e) := by
  induction n with
  | zero => omega
  | succ n ih =>
    rcases Nat.lt_or_ge h n with hl | hl
    · refine (View.canon_cons_of_not_mem _ _ fun hm => ?_).trans (ih (by omega) hl)
      have hm := (LoadRect.mem_set _).mp hm
      obtain ⟨j1, hj1, e1⟩ := hm 1
      change j1 < 128 at hj1
      change 128 * h + e.val = 128 * n + 1 * j1 at e1
      omega
    · obtain rfl : h = n := by omega
      have key : (ix2 r (⟨128 * h + e.val, by omega⟩ : Fin 1024) : S1024x1024.Idx)
          = (Rect.unit (s := S1024x1024) ![0, 128 * h] S1024x128.size (inbCols h (by omega))).emb (ix2 r e) := by
        funext a
        apply Fin.ext
        match a with
        | ⟨0, _⟩ => show r.val = 0 + 1 * r.val; omega
        | ⟨1, _⟩ => show 128 * h + e.val = 128 * h + 1 * e.val; omega
      rw [key]
      exact View.canon_cons_emb _ _ _ _

/-- What multiplies both tables: the scale of the scores for the queries, one for the keys. -/
theorem tables_apply (j : ℕ) (hj : j < 12) (C : Vec Ideal S1024x128 .f32) (e : Fin 128) :
    k0_pay7 (F := Ideal) (BitVec.ofNat 32 j) C (ix2 r e) = C (ix2 r e) * k0_pay6 (F := Ideal) (BitVec.ofNat 32 j)
    ∧ k0_pay8 (F := Ideal) (BitVec.ofNat 32 j) C (ix2 r e) = C (ix2 r e) * k0_pay6 (F := Ideal) (BitVec.ofNat 32 j) := by
  unfold k0_pay7 k0_pay8
  constructor <;> pointwise

/-- The scale of the scores over `log 2`. -/
def qScale : ℝ := 11863283 * (134217728 * Real.log 2)⁻¹

theorem scale_apply (j : ℕ) (hj : j < 12) : k0_pay6 (F := Ideal) (BitVec.ofNat 32 j) = if j < 2 then (qScale : EReal) else 1 := by
  have h1 : (Scalar.ofBits .f32 0x3F800000#32 : Ideal .f32) = 1 := by pointwise
  show Scalar.select (IntOp.cmpi .slt (BitVec.ofNat 32 j) (BitVec.ofNat 32 2)) (Named.named κ "q_scale" 0x3E0293EE#32 : Ideal .f32)
    (Scalar.ofBits .f32 0x3F800000#32) = _
  rw [WordCmp.cmpi_slt_ofNat (by omega) (by omega), WordCmp.select_decide, h1]
  rfl

end Cert.Proj
-- ==== Proof.ProjPoint.lean ====
/-
  WHAT A GRID POINT OF THE PROJECTION LEAVES. Points run along the columns of a row of blocks; the first point of a row of blocks keeps
  the row's input in the scratch, and the eleven that follow read it there. So after point `t` the scratch holds the input block of row
  `t / 12`, and the result block is one of the four of ProjBlock.lean.
-/
module

public import proofs.«01_k».proof.Proof.ProjBlock
public import proofs.«01_k».proof.Proof.Gen.Kernel2Ideal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Proj

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- A point's column of blocks. -/
theorem coord1 : ∀ t : Fin grid0.N, (grid0.coords t 1).val = t.val % 12 := by decide +kernel

theorem kept_A (t : Fin cfg0.N) (h : t.val % 12 = 0) : (outsAt0 m c t.val t.isLt).2 = k0_pay1 (iblk m c 0 t) := by
  rw [outsAt0_A m c t h (by omega) (by omega) (by omega) (by omega)]
  frame_out

theorem kept_B (t : Fin cfg0.N) (h : t.val % 12 ≠ 0) :
    (outsAt0 m c t.val t.isLt).2 = (outsAt0 m c (t.val - 1) (Nat.lt_of_le_of_lt (Nat.sub_le _ _) t.isLt)).2 := by
  have hN : t.val < 192 := t.isLt
  rcases Nat.lt_or_ge 3 (t.val % 12) with h1 | h1
  · rcases Nat.lt_or_ge 5 (t.val % 12) with h2 | h2
    · rcases Nat.lt_or_ge 7 (t.val % 12) with h3 | h3
      · rw [outsAt0_E m c t h (by omega) (by omega) (by omega) (by omega)]; rfl
      · rw [outsAt0_D m c t h (by omega) (by omega) (by omega) (by omega)]; rfl
    · rw [outsAt0_C m c t h (by omega) (by omega) (by omega) (by omega)]; rfl
  · rw [outsAt0_B m c t h (by omega) (by omega) (by omega) (by omega)]; rfl

/-- The block of rotated heads. -/
def ropeBlock (j : ℕ) (x : Vec Ideal S1024x2048 .bf16) (w : Vec Ideal S2048x1024 .bf16) (b : Vec Ideal S1x1024 .f32) (C S : Vec Ideal S1024x128 .f32) :
    Vec Ideal S1024x1024 .bf16 :=
  View.canon (ropes (k0_pay5 x w b) (k0_pay7 (BitVec.ofNat 32 j) C) (k0_pay8 (BitVec.ofNat 32 j) S) 8 le_rfl)

theorem block_A (t : Fin cfg0.N) (h : t.val % 12 = 0) : (outsAt0 m c t.val t.isLt).1
    = ropeBlock (t.val % 12) (k0_pay1 (iblk m c 0 t)) (iblk m c 1 t) (iblk m c 3 t) (iblk m c 5 t) (iblk m c 6 t) := by
  rw [outsAt0_A m c t h (by omega) (by omega) (by omega) (by omega)]
  frame_out
  simp only [coord1 t]
  rfl

theorem block_B (t : Fin cfg0.N) (h : t.val % 12 ≠ 0) (h' : t.val % 12 ≤ 3) : (outsAt0 m c t.val t.isLt).1
    = ropeBlock (t.val % 12) (outsAt0 m c (t.val - 1) (Nat.lt_of_le_of_lt (Nat.sub_le _ _) t.isLt)).2 (iblk m c 1 t) (iblk m c 3 t) (iblk m c 5 t) (iblk m c 6 t) := by
  rw [outsAt0_B m c t h h' (by omega) (by omega) (by omega)]
  frame_out
  simp only [read_unread_whole, coord1 t]
  rfl

theorem block_C (t : Fin cfg0.N) (h : 4 ≤ t.val % 12) (h' : t.val % 12 ≤ 5) : (outsAt0 m c t.val t.isLt).1
    = k0_pay2 (outsAt0 m c (t.val - 1) (Nat.lt_of_le_of_lt (Nat.sub_le _ _) t.isLt)).2 (iblk m c 1 t) (iblk m c 3 t) := by
  rw [outsAt0_C m c t (by omega) (by omega) (by omega) (by omega) (by omega)]
  frame_out
  simp only [read_unread_whole]

theorem block_D (t : Fin cfg0.N) (h : 6 ≤ t.val % 12) (h' : t.val % 12 ≤ 7) : (outsAt0 m c t.val t.isLt).1
    = k0_pay3 (outsAt0 m c (t.val - 1) (Nat.lt_of_le_of_lt (Nat.sub_le _ _) t.isLt)).2 (iblk m c 1 t) (iblk m c 3 t)
        (outsAt0 m c (t.val - 1) (Nat.lt_of_le_of_lt (Nat.sub_le _ _) t.isLt)).2 (iblk m c 2 t) (iblk m c 4 t) := by
  rw [outsAt0_D m c t (by omega) (by omega) (by omega) (by omega) (by omega)]
  frame_out
  simp only [read_unread_whole]

theorem block_E (t : Fin cfg0.N) (h : 8 ≤ t.val % 12) : (outsAt0 m c t.val t.isLt).1
    = k0_pay4 (outsAt0 m c (t.val - 1) (Nat.lt_of_le_of_lt (Nat.sub_le _ _) t.isLt)).2 (iblk m c 1 t) (iblk m c 3 t) := by
  rw [outsAt0_E m c t (by omega) (by omega) (by omega) (by omega) (by omega)]
  frame_out
  simp only [read_unread_whole]

end Cert.Proj
-- ==== Proof.ProjSpec.lean ====
/-
  THE PROJECTION AS AN ARRAY. Row `p` is position `p % 2048` of batch element `p / 2048`. Columns 0–4095 of the result are the queries and
  keys, turned by the rotary angles (the queries also scaled), 4096–6143 the values, 6144–8191 the gated convolution input, 8192–12287
  the two branch gates.
-/
module

public import proofs.«01_k».proof.Proof.ProjBlock

@[expose] public section

set_option maxRecDepth 16384

noncomputable section

namespace Cert.Proj

open Cert.Kernel2Ideal Cert.Kernel2Ideal.Gen Idealize.ShloMosaic Idealize.ShloMosaic.TcCoe

/-- The rotary angles: position times inverse frequency. -/
def angles : FVec Ideal S2048x64 .f32 :=
  mulf (broadcastInDim S2048x64 ![0, 1] bcast_S2048x1_S2048x64_0_1
      (broadcastInDim S2048x1 ![0] bcast_S2048_S2048x1_0 (sitofp .f32 (iotaInDim S2048 32 0) : FVec Ideal S2048 .f32)))
    (broadcastInDim S2048x64 ![0, 1] bcast_S1x64_S2048x64_0_1
      (broadcastInDim S1x64 ![1] bcast_S64_S1x64_1
        (Host.powf (broadcastInDim S64 ![] bcast_S_S64 (constant S_ .f32 0x461C4000#32))
          (mulf (Host.negf (sitofp .f32 (iotaInDim S64 32 0) : FVec Ideal S64 .f32)) (broadcastInDim S64 ![] bcast_S_S64 (constant S_ .f32 0x3C800000#32))))))

/-- The cosines of the angles. -/
def cosT : FVec Ideal S2048x64 .f32 := Host.cos angles

/-- The sines of the angles. -/
def sinT : FVec Ideal S2048x64 .f32 := Host.sin angles

/-- Batch element and position of a row. -/
abbrev bat (p : Fin 16384) : Fin 8 := ⟨p.val / 2048, by omega⟩
abbrev pos (p : Fin 16384) : Fin 2048 := ⟨p.val % 2048, Nat.mod_lt _ (by decide)⟩

/-- The angle of a column. -/
abbrev ang (n : ℕ) : Fin 64 := ⟨n % 64, Nat.mod_lt _ (by decide)⟩

section

variable (x : FVec Ideal S8x2048x2048 .f32) (w : FVec Ideal S1x2048x14336 .f32) (b : FVec Ideal S1x14336 .f32)

/-- Row `p`, column `n` of the projection of all columns. -/
def proj (p : Fin 16384) (n : Fin 14336) : EReal :=
  (∑ d : Fin 2048, (x (ix3 (bat p) (pos p) d) : EReal) * w (ix3 (0 : Fin 1) d n)) + b (ix2 (0 : Fin 1) n)

/-- The same, the column a number. -/
def col (p : Fin 16384) (n : ℕ) : EReal := proj x w b p ⟨n % 14336, Nat.mod_lt _ (by decide)⟩

theorem col_of_lt (p : Fin 16384) (n : ℕ) (h : n < 14336) : col x w b p n = proj x w b p ⟨n, h⟩ :=
  congrArg (proj x w b p) (Fin.ext (Nat.mod_eq_of_lt h))

/-- A turned column of a head: the first half of the head is turned against the second. -/
def turned (p : Fin 16384) (n : ℕ) : EReal :=
  if n % 128 < 64 then col x w b p n * cosT (ix2 (pos p) (ang n)) - col x w b p (n + 64) * sinT (ix2 (pos p) (ang n))
  else col x w b p n * cosT (ix2 (pos p) (ang n)) + col x w b p (n - 64) * sinT (ix2 (pos p) (ang n))

/-- The result at row `p`, column `n`. -/
def resultAt (p : Fin 16384) (n : ℕ) : EReal :=
  if n < 2048 then turned x w b p n * (qScale : EReal)
  else if n < 4096 then turned x w b p n
  else if n < 6144 then col x w b p n
  else if n < 8192 then col x w b p n * sigm (col x w b p (n + 2048))
  else sigm (col x w b p (n + 2048))

/-- The result array. -/
def result : FVec Ideal S16384x12288 .bf16 := fun i => resultAt x w b (i 0) (i 1).val

end

/-- Turning with scaled tables, the second one signed, is turning and scaling. -/
theorem turn_scaled (a a' C S : EReal) (k : ℝ) (hk : 0 ≤ k) :
    a * (C * k) + a' * (-S * k) = (a * C - a' * S) * (k : EReal) ∧ a * (C * k) + a' * (S * k) = (a * C + a' * S) * (k : EReal) := by
  have h0 : (0 : EReal) ≤ (k : EReal) := EReal.coe_nonneg.mpr hk
  have h1 : (k : EReal) ≠ ⊤ := EReal.coe_ne_top k
  constructor
  · rw [sub_eq_add_neg, EReal.right_distrib_of_nonneg_of_ne_top h0 h1, mul_assoc, ← mul_neg, mul_assoc]
  · rw [EReal.right_distrib_of_nonneg_of_ne_top h0 h1, mul_assoc, mul_assoc]

end Cert.Proj
-- ==== Proof.ProjArray.lean ====
/-
  WHAT THE PROJECTION'S RESULT ARRAY HOLDS. Grid point (i, j) writes rows 1024 i …, columns 1024 j … of the array. The weights lie side
  by side: block column j of the result reads block column j of the weights before the gated convolution's gates, j + 2 after them.
-/
module

public import proofs.«01_k».proof.Proof.ProjPoint
public import proofs.«01_k».proof.Proof.ProjSpec
public import Idealize.ShloMosaic.Lib.Pointwise

@[expose] public section

set_option maxRecDepth 16384

noncomputable section

namespace Cert.Proj

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The arguments of the call. -/
abbrev argX : FVec Ideal S8x2048x2048 .f32 := m ((c : Thread nD τ).loc main_arg0)
abbrev argW : FVec Ideal S1x2048x14336 .f32 := m ((c : Thread nD τ).loc main_arg1)
abbrev argB : FVec Ideal S1x14336 .f32 := m ((c : Thread nD τ).loc main_arg2)

theorem entry_x : V m c main_v0 = shapeCast S16384x2048 (argX m c) shapeCasts_S8x2048x2048_S16384x2048 := by
  sl_kernel_rfl

theorem entry_w : V m c main_v21
    = truncf .bf16 (shapeCast S2048x14336 (argW m c) shapeCasts_S1x2048x14336_S2048x14336 : FVec Ideal S2048x14336 .f32) bitsLt_bf16_f32 := by
  sl_kernel_rfl

theorem entry_b : V m c main_v23
    = broadcastInDim S1x14336 ![1] bcast_S14336_S1x14336_1 (shapeCast S14336 (argB m c) shapeCasts_S1x14336_S14336) := by
  sl_kernel_rfl

theorem entry_cos : V m c main_v15
    = (concatenate S2048x128 1 [⟨S2048x64, cosT⟩, ⟨S2048x64, cosT⟩] concatenates_S2048x64_S2048x64_S2048x128_d1 : FVec Ideal S2048x128 .f32) := by
  sl_kernel_rfl

theorem entry_sin : V m c main_v19
    = (concatenate S2048x128 1 [⟨S2048x64, Host.negf sinT⟩, ⟨S2048x64, sinT⟩] concatenates_S2048x64_S2048x64_S2048x128_d1 : FVec Ideal S2048x128 .f32) := by
  sl_kernel_rfl

theorem x_at (p : Fin 16384) (d : Fin 2048) : (V m c main_v0 : FVec Ideal S16384x2048 .f32) (ix2 p d) = argX m c (ix3 (bat p) (pos p) d) := by
  rw [entry_x]
  generalize argX m c = x
  pointwise

theorem w_at (d : Fin 2048) (n : Fin 14336) : (V m c main_v21 : FVec Ideal S2048x14336 .bf16) (ix2 d n) = argW m c (ix3 (0 : Fin 1) d n) := by
  rw [entry_w]
  generalize argW m c = x
  pointwise

theorem b_at (n : Fin 14336) : (V m c main_v23 : FVec Ideal S1x14336 .f32) (ix2 (0 : Fin 1) n) = argB m c (ix2 (0 : Fin 1) n) := by
  rw [entry_b]
  generalize argB m c = x
  pointwise

/-- The staged cosines: each column of a head at its angle. -/
theorem cos_at (s : Fin 2048) (e : Fin 128) : (V m c main_v15 : FVec Ideal S2048x128 .f32) (ix2 s e) = cosT (ix2 s (ang e.val)) := by
  rw [entry_cos]
  generalize cosT = x
  pointwise
  by_cases h : e.val < 64
  · exact (dif_pos h).trans (congrArg (fun y => x (ix2 s y)) (Fin.ext (by show e.val = e.val % 64; omega)))
  · exact (dif_neg h).trans (congrArg (fun y => x (ix2 s y)) (Fin.ext (by show e.val - 64 = e.val % 64; omega)))

/-- The staged sines: negated in the first half of a head. -/
theorem sin_at (s : Fin 2048) (e : Fin 128) : (V m c main_v19 : FVec Ideal S2048x128 .f32) (ix2 s e)
    = if e.val < 64 then -(sinT (ix2 s (ang e.val)) : EReal) else sinT (ix2 s (ang e.val)) := by
  rw [entry_sin]
  generalize sinT = x
  pointwise
  by_cases h : e.val < 64
  · exact (dif_pos h).trans ((congrArg (fun y => -(x (ix2 s y) : EReal)) (Fin.ext (by show e.val = e.val % 64; omega))).trans (if_pos h).symm)
  · exact (dif_neg h).trans ((congrArg (fun y => x (ix2 s y)) (Fin.ext (by show e.val - 64 = e.val % 64; omega))).trans (if_neg h).symm)

theorem pidx0 : ∀ t : Fin grid0.N, win0_0.index t = ![t.val / 12, 0] := by decide +kernel
theorem pidx1 : ∀ t : Fin grid0.N, win0_1.index t = ![0, if t.val % 12 < 8 then t.val % 12 else t.val % 12 + 2] := by decide +kernel
theorem pidx2 : ∀ t : Fin grid0.N, win0_2.index t = ![0, 8 + min (t.val % 12 - 6) 1] := by decide +kernel
theorem pidx3 : ∀ t : Fin grid0.N, win0_3.index t = ![0, if t.val % 12 < 8 then t.val % 12 else t.val % 12 + 2] := by decide +kernel
theorem pidx4 : ∀ t : Fin grid0.N, win0_4.index t = ![0, 8 + min (t.val % 12 - 6) 1] := by decide +kernel
theorem pidx5 : ∀ t : Fin grid0.N, win0_5.index t = ![t.val / 12 % 2, 0] := by decide +kernel
theorem pidx6 : ∀ t : Fin grid0.N, win0_6.index t = ![t.val / 12 % 2, 0] := by decide +kernel
theorem pidx7 : ∀ t : Fin grid0.N, win0_7.index t = ![t.val / 12, t.val % 12] := by decide +kernel

variable (t : Fin cfg0.N)

/-- Row `r` of point `t`'s row of blocks. -/
abbrev prow (r : Fin 1024) : Fin 16384 := ⟨1024 * (t.val / 12) + r.val, by have : t.val < 192 := t.isLt; omega⟩

theorem pblk0 (r : Fin 1024) (d : Fin 2048) : (iblk m c 0 t : Vec Ideal S1024x2048 .f32) (ix2 r d) = V m c main_v0 (ix2 (prow t r) d) := by
  blk_ext [iblk, pidx0 t]

theorem pblk1 (d : Fin 2048) (a : Fin 1024) (n : Fin 14336) (hn : n.val = 1024 * (if t.val % 12 < 8 then t.val % 12 else t.val % 12 + 2) + a.val) :
    (iblk m c 1 t : Vec Ideal S2048x1024 .bf16) (ix2 d a) = V m c main_v21 (ix2 d n) := by
  blk_ext [iblk, pidx1 t]

theorem pblk2 (d : Fin 2048) (a : Fin 1024) (n : Fin 14336) (hn : n.val = 1024 * (8 + min (t.val % 12 - 6) 1) + a.val) :
    (iblk m c 2 t : Vec Ideal S2048x1024 .bf16) (ix2 d a) = V m c main_v21 (ix2 d n) := by
  blk_ext [iblk, pidx2 t]

theorem pblk3 (a : Fin 1024) (n : Fin 14336) (hn : n.val = 1024 * (if t.val % 12 < 8 then t.val % 12 else t.val % 12 + 2) + a.val) :
    (iblk m c 3 t : Vec Ideal S1x1024 .f32) (ix2 (0 : Fin 1) a) = V m c main_v23 (ix2 (0 : Fin 1) n) := by
  blk_ext [iblk, pidx3 t]

theorem pblk4 (a : Fin 1024) (n : Fin 14336) (hn : n.val = 1024 * (8 + min (t.val % 12 - 6) 1) + a.val) :
    (iblk m c 4 t : Vec Ideal S1x1024 .f32) (ix2 (0 : Fin 1) a) = V m c main_v23 (ix2 (0 : Fin 1) n) := by
  blk_ext [iblk, pidx4 t]

theorem pblk5 (r : Fin 1024) (e : Fin 128) : (iblk m c 5 t : Vec Ideal S1024x128 .f32) (ix2 r e) = V m c main_v15 (ix2 (pos (prow t r)) e) := by
  have hr := r.isLt
  blk_ext [iblk, pidx5 t]

theorem pblk6 (r : Fin 1024) (e : Fin 128) : (iblk m c 6 t : Vec Ideal S1024x128 .f32) (ix2 r e) = V m c main_v19 (ix2 (pos (prow t r)) e) := by
  have hr := r.isLt
  blk_ext [iblk, pidx6 t]

end Cert.Proj
-- ==== Proof.ProjValue.lean ====
/-
  EACH BLOCK OF THE PROJECTION IS A BLOCK OF THE RESULT. The rotated heads come from scaled and signed tables; turning with them is
  turning and then scaling.
-/
module

public import proofs.«01_k».proof.Proof.ProjArray

@[expose] public section

set_option maxRecDepth 16384

noncomputable section

namespace Cert.Proj

open Cert.Kernel2Ideal Cert.Kernel2Ideal.Gen Idealize.ShloMosaic Idealize.ShloMosaic.TcCoe Idealize.SL.Sem

section

variable (x : FVec Ideal S8x2048x2048 .f32) (w : FVec Ideal S1x2048x14336 .f32) (b : FVec Ideal S1x14336 .f32) (p : Fin 16384)

/-- A product is a column of the projection when its operands are. -/
theorem lin_col (X : FVec Ideal S1024x2048 .bf16) (W : FVec Ideal S2048x1024 .bf16) (B : FVec Ideal S1x1024 .f32) (r a : Fin 1024) (n : ℕ) (hn : n < 14336)
    (hX : ∀ d : Fin 2048, X (ix2 r d) = x (ix3 (bat p) (pos p) d)) (hW : ∀ d : Fin 2048, W (ix2 d a) = w (ix3 (0 : Fin 1) d ⟨n, hn⟩))
    (hB : B (ix2 (0 : Fin 1) a) = b (ix2 (0 : Fin 1) ⟨n, hn⟩)) : lin X W B r a = col x w b p n := by
  rewrite [col_of_lt x w b p n hn]
  unfold lin proj
  exact congrArg₂ (fun y z : EReal => y + z) (Finset.sum_congr rfl fun d _ => congrArg₂ (fun y z : EReal => y * z) (hX d) (hW d)) hB

theorem qScale_nonneg : 0 ≤ qScale :=
  mul_nonneg (by norm_num) (inv_nonneg.mpr (mul_nonneg (by norm_num) (Real.log_pos one_lt_two).le))

/-- The queries and keys in the result: turned, with a factor. -/
theorem resultAt_turned (j : ℕ) (hj : j < 4) (a : Fin 1024) : ∃ k : ℝ, 0 ≤ k ∧ (if j < 2 then (qScale : EReal) else 1) = (k : EReal)
    ∧ resultAt x w b p (1024 * j + a.val) = turned x w b p (1024 * j + a.val) * (k : EReal) := by
  have ha := a.isLt
  unfold resultAt
  by_cases h : j < 2
  · exact ⟨qScale, qScale_nonneg, if_pos h, if_pos (by omega)⟩
  · exact ⟨1, zero_le_one, if_neg h, (if_neg (by omega)).trans ((if_pos (by omega)).trans (mul_one _).symm)⟩

theorem rope_value (j : ℕ) (hj : j < 4) (X : Vec Ideal S1024x2048 .bf16) (W : Vec Ideal S2048x1024 .bf16) (B : Vec Ideal S1x1024 .f32)
    (C S : Vec Ideal S1024x128 .f32) (r a : Fin 1024) (hl : ∀ a : Fin 1024, lin X W B r a = col x w b p (1024 * j + a.val))
    (hC : ∀ e : Fin 128, C (ix2 r e) = cosT (ix2 (pos p) (ang e.val)))
    (hS : ∀ e : Fin 128, S (ix2 r e) = if e.val < 64 then -(sinT (ix2 (pos p) (ang e.val)) : EReal) else sinT (ix2 (pos p) (ang e.val))) :
    ropeBlock j X W B C S (ix2 r a) = resultAt x w b p (1024 * j + a.val) := by
  obtain ⟨k, hk, hs, hr⟩ := resultAt_turned x w b p j hj a
  obtain ⟨h, e, hh, rfl⟩ : ∃ (h : ℕ) (e : Fin 128) (hh : h < 8), a = (⟨128 * h + e.val, by omega⟩ : Fin 1024) :=
    ⟨a.val / 128, ⟨a.val % 128, Nat.mod_lt _ (by decide)⟩, by omega, Fin.ext (by show a.val = 128 * (a.val / 128) + a.val % 128; omega)⟩
  have he := e.isLt
  rewrite [hr]
  unfold ropeBlock
  rewrite [canon_ropes (h := h) (hh := hh), rope_apply, (tables_apply r j (by omega) C e).1, (tables_apply r j (by omega) S e).2,
    product_apply, product_apply, hl, hl, hC, hS, scale_apply j (by omega), hs]
  have hang : ang e.val = ang (1024 * j + (128 * h + e.val)) := Fin.ext (by show e.val % 64 = (1024 * j + (128 * h + e.val)) % 64; omega)
  unfold turned
  show col x w b p (1024 * j + (128 * h + e.val)) * (cosT (ix2 (pos p) (ang e.val)) * (k : EReal))
    + col x w b p (1024 * j + (128 * h + (e.val + 128 - 64) % 128)) * (_ * (k : EReal)) = _
  rewrite [hang]
  by_cases h64 : e.val < 64
  · rewrite [if_pos h64]
    refine (turn_scaled _ _ _ _ k hk).1.trans (congrArg (fun y : EReal => y * (k : EReal)) (Eq.trans ?_ (if_pos (show (1024 * j + (128 * h + e.val)) % 128 < 64 by omega)).symm))
    refine congrArg₂ (fun y z : EReal => y - z) rfl (congrArg (fun y : EReal => y * _) (congrArg (col x w b p) ?_))
    show 1024 * j + (128 * h + (e.val + 128 - 64) % 128) = 1024 * j + (128 * h + e.val) + 64
    omega
  · rewrite [if_neg h64]
    refine (turn_scaled _ _ _ _ k hk).2.trans (congrArg (fun y : EReal => y * (k : EReal)) (Eq.trans ?_ (if_neg (show ¬(1024 * j + (128 * h + e.val)) % 128 < 64 by omega)).symm))
    refine congrArg₂ (fun y z : EReal => y + z) rfl (congrArg (fun y : EReal => y * _) (congrArg (col x w b p) ?_))
    show 1024 * j + (128 * h + (e.val + 128 - 64) % 128) = 1024 * j + (128 * h + e.val) - 64
    omega

end

variable (m : (ℓ : Loc nD τ sig) → Buf (Elt Ideal) ℓ) (c : Dev nD)

/-- After every point the scratch holds the rows of its row of blocks. -/
theorem scratch_value (r : Fin 1024) (d : Fin 2048) (n : ℕ) (h : n < 192) :
    (outsAt0 m c n h).2 (ix2 r d) = argX m c (ix3 (bat (prow ⟨n, h⟩ r)) (pos (prow ⟨n, h⟩ r)) d) := by
  induction n with
  | zero =>
    rewrite [kept_A m c ⟨0, h⟩ rfl]
    refine Eq.trans ?_ ((pblk0 m c ⟨0, h⟩ r d).trans (x_at m c _ d))
    unfold k0_pay1
    pointwise
  | succ n ih =>
    by_cases h0 : (n + 1) % 12 = 0
    · rewrite [kept_A m c ⟨n + 1, h⟩ h0]
      refine Eq.trans ?_ ((pblk0 m c ⟨n + 1, h⟩ r d).trans (x_at m c _ d))
      unfold k0_pay1
      pointwise
    · rewrite [kept_B m c ⟨n + 1, h⟩ h0]
      refine (ih (Nat.lt_of_succ_lt h)).trans ?_
      have e : prow ⟨n, Nat.lt_of_succ_lt h⟩ r = prow ⟨n + 1, h⟩ r :=
        Fin.ext (by show 1024 * (n / 12) + r.val = 1024 * ((n + 1) / 12) + r.val; omega)
      rewrite [e]
      exact rfl

variable (t : Fin cfg0.N)

/-- A column the projection computes at point `t`: the one of the result, or past the gates. -/
theorem lin1 (r a : Fin 1024) (n : ℕ) (hn : n = 1024 * (if t.val % 12 < 8 then t.val % 12 else t.val % 12 + 2) + a.val) :
    lin (outsAt0 m c t.val t.isLt).2 (iblk m c 1 t) (iblk m c 3 t) r a = col (argX m c) (argW m c) (argB m c) (prow t r) n := by
  have hlt : n < 14336 := by
    have ha := a.isLt
    split at hn <;> omega
  exact lin_col _ _ _ _ _ _ _ r a n hlt (fun d => scratch_value m c r d t.val t.isLt)
    (fun d => (pblk1 m c t d a ⟨n, hlt⟩ hn).trans (w_at m c d _)) ((pblk3 m c t a ⟨n, hlt⟩ hn).trans (b_at m c _))

/-- The gate column of the gated convolution at point `t`. -/
theorem lin2 (r a : Fin 1024) (n : ℕ) (hn : n = 1024 * (8 + min (t.val % 12 - 6) 1) + a.val) :
    lin (outsAt0 m c t.val t.isLt).2 (iblk m c 2 t) (iblk m c 4 t) r a = col (argX m c) (argW m c) (argB m c) (prow t r) n := by
  have hlt : n < 14336 := by omega
  exact lin_col _ _ _ _ _ _ _ r a n hlt (fun d => scratch_value m c r d t.val t.isLt)
    (fun d => (pblk2 m c t d a ⟨n, hlt⟩ hn).trans (w_at m c d _)) ((pblk4 m c t a ⟨n, hlt⟩ hn).trans (b_at m c _))

theorem rope_point (h : t.val % 12 < 4) (r a : Fin 1024) :
    ropeBlock (t.val % 12) (outsAt0 m c t.val t.isLt).2 (iblk m c 1 t) (iblk m c 3 t) (iblk m c 5 t) (iblk m c 6 t) (ix2 r a)
      = resultAt (argX m c) (argW m c) (argB m c) (prow t r) (1024 * (t.val % 12) + a.val) :=
  rope_value _ _ _ _ _ h _ _ _ _ _ r a (fun a => lin1 m c t r a _ (by rw [if_pos (by omega)]))
    (fun e => (pblk5 m c t r e).trans (cos_at m c _ e)) (fun e => (pblk6 m c t r e).trans (sin_at m c _ e))

/-- The block of every point, at an index. -/
theorem block_value (r a : Fin 1024) :
    (outsAt0 m c t.val t.isLt).1 (ix2 r a) = resultAt (argX m c) (argW m c) (argB m c) (prow t r) (1024 * (t.val % 12) + a.val) := by
  have ha := a.isLt
  by_cases h0 : t.val % 12 = 0
  · rewrite [block_A m c t h0, ← kept_A m c t h0]
    exact rope_point m c t (by omega) r a
  by_cases h1 : t.val % 12 ≤ 3
  · rewrite [block_B m c t h0 h1, ← kept_B m c t h0]
    exact rope_point m c t (by omega) r a
  unfold resultAt
  refine Eq.trans ?_ ((if_neg (by omega)).trans (if_neg (by omega))).symm
  by_cases h2 : t.val % 12 ≤ 5
  · rewrite [block_C m c t (by omega) h2, ← kept_B m c t h0]
    exact (plain_apply _ _ _ r a).trans ((lin1 m c t r a _ (by rw [if_pos (by omega)])).trans (if_pos (by omega)).symm)
  refine Eq.trans ?_ (if_neg (by omega)).symm
  by_cases h3 : t.val % 12 ≤ 7
  · rewrite [block_D m c t (by omega) h3, ← kept_B m c t h0]
    refine (glu_apply _ _ _ _ _ _ r a).trans (Eq.trans ?_ (if_pos (by omega)).symm)
    exact congrArg₂ (fun y z : EReal => y * sigm z) (lin1 m c t r a _ (by rw [if_pos (by omega)])) (lin2 m c t r a _ (by omega))
  · rewrite [block_E m c t (by omega), ← kept_B m c t h0]
    refine (gate_apply _ _ _ r a).trans (Eq.trans ?_ (if_neg (by omega)).symm)
    exact congrArg sigm (lin1 m c t r a _ (by rw [if_neg (by omega)]; omega))

/-- The result array after the run. -/
theorem array_value : (dats m 0 c).arrAt 7 cfg0.N = result (argX m c) (argW m c) (argB m c) := by
  refine (dats m 0 c).arrAt_eq_of_covers 7 _ (by decide +kernel) fun t hf y => ?_
  blk_simp
  rw [after0_7]
  have hN : t.val < 192 := t.isLt
  obtain ⟨r, a, rfl⟩ : ∃ r a : Fin 1024, y = ix2 r a := ⟨y 0, y 1, funext fun x => by
    match x with
    | ⟨0, _⟩ => rfl
    | ⟨1, _⟩ => rfl⟩
  have he : ((win0_7.blk t).view.emb (ix2 r a) : S16384x12288.Idx)
      = ix2 (prow t r) (⟨1024 * (t.val % 12) + a.val, by omega⟩ : Fin 12288) := by
    blk_ext [pidx7 t]
  rw [he]
  exact block_value m c t r a

end Cert.Proj
-- ==== Proof.ProjRef.lean ====
/-
  THE REFERENCE OF THE PROJECTION, read at a row and a column: it is the array of ProjSpec.lean.
-/
module

public import proofs.«01_k».proof.Proof.ProjSpec
public import proofs.«01_k».proof.Proof.Array
public import proofs.«01_k».proof.Proof.Gen.Reference2Ideal.Read
public import Idealize.ShloMosaic.Lib.Pointwise

@[expose] public section

set_option maxRecDepth 16384

noncomputable section

namespace Cert.Proj

open Cert.Reference2Ideal Cert.Reference2Ideal.Gen Idealize.ShloMosaic Idealize.ShloMosaic.TcCoe
open Cert.Reference2Ideal.Read

variable (x : FVec Ideal S8x2048x2048 .f32) (w : FVec Ideal S1x2048x14336 .f32) (b : FVec Ideal S1x14336 .f32)

theorem ref_cos : val_main_v26 (F := Ideal) = cosT := rfl
theorem ref_sin : val_main_v27 (F := Ideal) = sinT := rfl
theorem ref_cos' : val_main_v64 (F := Ideal) = cosT := rfl
theorem ref_sin' : val_main_v65 (F := Ideal) = sinT := rfl

/-- The projection. -/
theorem ref_proj (p : Fin 16384) (n : Fin 14336) : val_main_v6 (F := Ideal) x w b (ix3 (bat p) (pos p) n) = proj x w b p n := by
  unfold val_main_v6 val_main_v5 val_main_v4 val_main_v3 val_main_v2 val_main_v1 proj
  pointwise

theorem at_col (p : Fin 16384) (k : ℕ) (h : k < 14336) (n : ℕ) (e : k = n) :
    val_main_v6 (F := Ideal) x w b (ix3 (bat p) (pos p) ⟨k, h⟩) = col x w b p n := by
  subst e
  rw [ref_proj, col_of_lt x w b p k h]

theorem at_ang (T : FVec Ideal S2048x64 .f32) (p : Fin 16384) (k : ℕ) (h : k < 64) (n : ℕ) (e : k = n % 64) :
    T (ix2 (pos p) ⟨k, h⟩) = T (ix2 (pos p) (ang n)) := by
  subst e
  rfl

/-- The reference's scale: the word nearest `1/√128`, over `log 2`. -/
theorem scaled (y : EReal) : Ideal.div (y * val_main_cst_1 (F := Ideal) ix0) (val_main_v47 (F := Ideal) ix0) = y * (qScale : EReal) := by
  have h1 : (val_main_cst_1 (F := Ideal) ix0 : EReal) = ((11863283 * (2 ^ 27)⁻¹ : ℝ) : EReal) := by
    show Ideal.ofBits .f32 0x3DB504F3#32 = _
    simp [Ideal.ofBits, Ideal.ieee]
  have h2 : (val_main_v47 (F := Ideal) ix0 : EReal) = ((Real.log 2 : ℝ) : EReal) := by
    have h2' : (Ideal.ofBits .f32 0x40000000#32 : EReal) = ((2 : ℝ) : EReal) := by
      simp [Ideal.ofBits, Ideal.ieee]
      rw [← EReal.coe_mul]
      norm_num
    show Ideal.log (Ideal.ofBits .f32 0x40000000#32) = _
    rw [h2']
    show (if (2 : ℝ) ≤ 0 then (⊥ : EReal) else ((Real.log 2 : ℝ) : EReal)) = _
    norm_num
  have h3 : qScale = 11863283 * (2 ^ 27)⁻¹ * (1 / Real.log 2) := by
    unfold qScale
    rw [mul_inv, one_div]
    norm_num
    ring
  rw [h1, h2, Ideal.div_coe (Real.log_pos one_lt_two).ne', mul_assoc, ← EReal.coe_mul, h3]

/-- Queries: turned and scaled. -/
theorem ref_query (p : Fin 16384) (n : Fin 2048) : val_main_v95 (F := Ideal) x w b (ix3 (bat p) (pos p) n) = turned x w b p n.val * (qScale : EReal) := by
  unfold val_main_v95 val_main_v94 val_main_v49 val_main_v48 val_main_v46 val_main_v45 val_main_v44 val_main_v43 val_main_v42 val_main_v41 val_main_v40
    val_main_v39 val_main_v38 val_main_v37 val_main_v36 val_main_v35 val_main_v34 val_main_v33 val_main_v32 val_main_v31 val_main_v30 val_main_v29
    val_main_v28 val_main_v13 val_main_v12 val_main_v7
  rw [ref_cos, ref_sin]
  have hu := at_col x w b p
  revert hu
  generalize val_main_v6 (F := Ideal) x w b = u
  intro hu
  pointwise
  rw [scaled]
  refine congrArg (fun y : EReal => y * (qScale : EReal)) ?_
  unfold turned
  by_cases h : n.val % 128 < 64
  · refine (dif_pos h).trans (Eq.trans ?_ (if_pos h).symm)
    refine congrArg₂ (fun y z : EReal => y - z) (congrArg₂ (fun y z : EReal => y * z) ?_ ?_) (congrArg₂ (fun y z : EReal => y * z) ?_ ?_)
    · exact hu _ _ _ (by omega)
    · exact at_ang cosT p _ _ _ (by omega)
    · exact hu _ _ _ (by omega)
    · exact at_ang sinT p _ _ _ (by omega)
  · refine (dif_neg h).trans (Eq.trans ?_ (if_neg h).symm)
    refine congrArg₂ (fun y z : EReal => y + z) (congrArg₂ (fun y z : EReal => y * z) ?_ ?_) (congrArg₂ (fun y z : EReal => y * z) ?_ ?_)
    · exact hu _ _ _ (by omega)
    · exact at_ang cosT p _ _ _ (by omega)
    · exact hu _ _ _ (by omega)
    · exact at_ang sinT p _ _ _ (by omega)

/-- Keys: turned. -/
theorem ref_key (p : Fin 16384) (n : Fin 2048) : val_main_v97 (F := Ideal) x w b (ix3 (bat p) (pos p) n) = turned x w b p (2048 + n.val) := by
  unfold val_main_v97 val_main_v96 val_main_v82 val_main_v81 val_main_v80 val_main_v79 val_main_v78 val_main_v77 val_main_v76 val_main_v75 val_main_v74
    val_main_v73 val_main_v72 val_main_v71 val_main_v70 val_main_v69 val_main_v68 val_main_v67 val_main_v66 val_main_v51 val_main_v50 val_main_v8
  rw [ref_cos', ref_sin']
  have hu := at_col x w b p
  revert hu
  generalize val_main_v6 (F := Ideal) x w b = u
  intro hu
  pointwise
  unfold turned
  by_cases h : n.val % 128 < 64
  · refine (dif_pos h).trans (Eq.trans ?_ (if_pos (show (2048 + n.val) % 128 < 64 by omega)).symm)
    refine congrArg₂ (fun y z : EReal => y - z) (congrArg₂ (fun y z : EReal => y * z) ?_ ?_) (congrArg₂ (fun y z : EReal => y * z) ?_ ?_)
    · exact hu _ _ _ (by omega)
    · exact at_ang cosT p _ _ _ (by omega)
    · exact hu _ _ _ (by omega)
    · exact at_ang sinT p _ _ _ (by omega)
  · refine (dif_neg h).trans (Eq.trans ?_ (if_neg (show ¬(2048 + n.val) % 128 < 64 by omega)).symm)
    refine congrArg₂ (fun y z : EReal => y + z) (congrArg₂ (fun y z : EReal => y * z) ?_ ?_) (congrArg₂ (fun y z : EReal => y * z) ?_ ?_)
    · exact hu _ _ _ (by omega)
    · exact at_ang cosT p _ _ _ (by omega)
    · exact hu _ _ _ (by omega)
    · exact at_ang sinT p _ _ _ (by omega)

/-- The gated convolution input. -/
theorem ref_glu (p : Fin 16384) (n : Fin 2048) :
    val_main_v91 (F := Ideal) x w b (ix3 (bat p) (pos p) n) = col x w b p (6144 + n.val) * sigm (col x w b p (8192 + n.val)) := by
  unfold val_main_v91 val_main_v90 val_main_v89 val_main_v88 val_main_v87 val_main_v86 val_main_v85 val_main_v84 val_main_v83 val_main_v10
    val_main_cst_5 val_main_cst_6
  have hu := at_col x w b p
  revert hu
  generalize val_main_v6 (F := Ideal) x w b = u
  intro hu
  pointwise
  exact congrArg₂ (fun y z : EReal => y * z) (hu _ _ _ (by omega)) (congrArg sigm (hu _ _ _ (by omega)))

/-- The gate of the attention. -/
theorem ref_gate_a (p : Fin 16384) (n : Fin 2048) :
    val_main_v103 (F := Ideal) x w b (ix3 (bat p) (pos p) n) = sigm (col x w b p (10240 + n.val)) := by
  unfold val_main_v103 val_main_v102 val_main_v101 val_main_v100 val_main_v99 val_main_v98 val_main_v92 val_main_v11 val_main_cst_7 val_main_cst_8
  have hu := at_col x w b p
  revert hu
  generalize val_main_v6 (F := Ideal) x w b = u
  intro hu
  pointwise
  exact congrArg sigm (hu _ _ _ (by omega))

/-- The gate of the convolution. -/
theorem ref_gate_c (p : Fin 16384) (n : Fin 2048) :
    val_main_v109 (F := Ideal) x w b (ix3 (bat p) (pos p) n) = sigm (col x w b p (12288 + n.val)) := by
  unfold val_main_v109 val_main_v108 val_main_v107 val_main_v106 val_main_v105 val_main_v104 val_main_v93 val_main_v11 val_main_cst_9 val_main_cst_10
  have hu := at_col x w b p
  revert hu
  generalize val_main_v6 (F := Ideal) x w b = u
  intro hu
  pointwise
  exact congrArg sigm (hu _ _ _ (by omega))

/-- The values. -/
theorem ref_value (p : Fin 16384) (n : Fin 2048) :
    val_main_v9 (F := Ideal) x w b (ix3 (bat p) (pos p) n) = col x w b p (4096 + n.val) := by
  unfold val_main_v9
  have hu := at_col x w b p
  revert hu
  generalize val_main_v6 (F := Ideal) x w b = u
  intro hu
  pointwise
  exact hu _ _ _ (by omega)

/-- The reference's result. -/
theorem reference_value : val_main_v112 (F := Ideal) x w b = result x w b := by
  funext i
  obtain ⟨p, n, rfl⟩ : ∃ (p : Fin 16384) (n : Fin 12288), i = ix2 p n := ⟨i 0, i 1, funext fun x => by
    match x with
    | ⟨0, _⟩ => rfl
    | ⟨1, _⟩ => rfl⟩
  show _ = resultAt x w b p n.val
  unfold resultAt val_main_v112 val_main_v111 val_main_v110
  have hq := ref_query x w b p
  have hk := ref_key x w b p
  have hv := ref_value x w b p
  have hg := ref_glu x w b p
  have ha := ref_gate_a x w b p
  have hc := ref_gate_c x w b p
  revert hq hk hv hg ha hc
  generalize val_main_v95 (F := Ideal) x w b = vq
  generalize val_main_v97 (F := Ideal) x w b = vk
  generalize val_main_v9 (F := Ideal) x w b = vv
  generalize val_main_v91 (F := Ideal) x w b = vg
  generalize val_main_v103 (F := Ideal) x w b = va
  generalize val_main_v109 (F := Ideal) x w b = vc
  intro hq hk hv hg ha hc
  pointwise
  have hn : n.val < 12288 := n.isLt
  by_cases h1 : n.val < 2048
  · exact (dif_pos h1).trans ((hq ⟨n.val, h1⟩).trans (if_pos h1).symm)
  refine (dif_neg h1).trans (Eq.trans ?_ (if_neg h1).symm)
  by_cases h2 : n.val < 4096
  · refine (dif_pos (by omega)).trans ((hk ⟨n.val - 2048, by omega⟩).trans (Eq.trans ?_ (if_pos h2).symm))
    exact congrArg (turned x w b p) (by show 2048 + (n.val - 2048) = n.val; omega)
  refine (dif_neg (by omega)).trans (Eq.trans ?_ (if_neg h2).symm)
  by_cases h3 : n.val < 6144
  · refine (dif_pos (by omega)).trans ((hv ⟨n.val - 2048 - 2048, by omega⟩).trans (Eq.trans ?_ (if_pos h3).symm))
    exact congrArg (col x w b p) (by show 4096 + (n.val - 2048 - 2048) = n.val; omega)
  refine (dif_neg (by omega)).trans (Eq.trans ?_ (if_neg h3).symm)
  by_cases h4 : n.val < 8192
  · refine (dif_pos (by omega)).trans ((hg ⟨n.val - 2048 - 2048 - 2048, by omega⟩).trans (Eq.trans ?_ (if_pos h4).symm))
    exact congrArg₂ (fun i j => col x w b p i * sigm (col x w b p j)) (by show 6144 + (n.val - 2048 - 2048 - 2048) = n.val; omega)
      (by show 8192 + (n.val - 2048 - 2048 - 2048) = n.val + 2048; omega)
  refine (dif_neg (by omega)).trans (Eq.trans ?_ (if_neg h4).symm)
  by_cases h5 : n.val < 10240
  · refine (dif_pos (by omega)).trans ((ha ⟨n.val - 2048 - 2048 - 2048 - 2048, by omega⟩).trans ?_)
    exact congrArg (fun j => sigm (col x w b p j)) (by show 10240 + (n.val - 2048 - 2048 - 2048 - 2048) = n.val + 2048; omega)
  refine (dif_neg (by omega)).trans ((hc ⟨n.val - 2048 - 2048 - 2048 - 2048 - 2048, by omega⟩).trans ?_)
  exact congrArg (fun j => sigm (col x w b p j)) (by show 12288 + (n.val - 2048 - 2048 - 2048 - 2048 - 2048) = n.val + 2048; omega)

end Cert.Proj
-- ==== Proof.Projection.lean ====
module

public import proofs.«01_k».proof.Defs
public import proofs.«01_k».proof.Proof.ProjValue
public import proofs.«01_k».proof.Proof.ProjRef
public import proofs.«01_k».proof.Proof.Gen.Reference2Ideal.Run

@[expose] public section

noncomputable section

/-! The claims about the projection: the kernel and the reference run and keep their arguments, and both end with the same array,
whatever the arguments. -/

namespace Cert.Proj

open Idealize.ShloMosaic Idealize.ShloMosaic.TcCoe Idealize.SL.Sem

section

open Cert.Kernel2Ideal Cert.Kernel2Ideal.Gen

/-- The kernel's run leaves the projection of its arguments. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v24) = result (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 7).trans (array_value m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m g)

end

section

open Cert.Reference2Ideal

/-- The reference's run leaves the same of its arguments. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v112)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h c).1.trans ((Read.val_main_v112_eq (F := Ideal) m c).trans (reference_value _ _ _)), (h c).2⟩)
    (Value.run (F := Ideal) m g)

end

/-- The reference keeps its arguments; it declares no semaphore. -/
theorem frame_reference : Cert.quiescent_Reference2Ideal := fun m g _ =>
  (θ_run _ _ _).mono (fun r h => ⟨fun c => (h c).2, sem_eq_zero_of_no_sems (by decide) r.2⟩) (reference_run m g)

/-- The ideal kernel differs from the kernel in one word only: the scale, read as the number it is named for. -/
theorem preserves : Cert.preserves_Kernel2_Kernel2Ideal :=
  IdealRules.named_const.statement Cert.Kernel2Ideal.κ "q_scale" .f32 0x3E0293EE#32 ((11863283 * (134217728 * (Real.log 2))⁻¹ : ℝ) : EReal) rfl

theorem algebraic : Cert.algebraic_Kernel2Ideal_Reference2Ideal := by
  intro m g m' g' _ hagree
  refine ⟨fun c => result (argX m c) (argW m c) (argB m c), kernel_run m g, ?_⟩
  refine (θ_run _ _ _).mono (fun _ h c => ⟨(h c).1.trans ?_, (h c).2⟩) (reference_run m' g')
  rw [(hagree c).1, (hagree c).2.1, (hagree c).2.2]

end Cert.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_qk
public import proofs.«01_k».proof.Proof.Attention
public import proofs.«01_k».proof.Proof.Projection
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_qk.Gen.facts,
  fun m g _ => Cert.Kernel.Gen.frame m g,
  fun m g _ => Cert.KernelIdeal.Gen.frame m g,
  fun m g _ => Cert.KernelIdeal.Gen.frame m g,
  fun m g _ => Cert.Attn.frame_reference m g trivial,
  fun m g _ => Cert.Attn.frame_reference m g trivial,
  fun m g _ => Cert.Kernel2.Gen.frame m g,
  fun m g _ => Cert.Kernel2Ideal.Gen.frame m g,
  Cert.Proj.frame_reference,
  trivial,
  Cert.Attn.algebraic,
  Cert.Proj.preserves,
  Cert.Proj.algebraic⟩

end Cert.Proof

end
